-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)) (v6 : (c : Dev Cert.Kernel4Ideal.nD) → Buf (Elt Ideal) ((c.tc : Thread Cert.Kernel4Ideal.nD Cert.Kernel4Ideal.τ).loc Cert.Kernel4Ideal.main_v2_6)) (v7 : (c : Dev Cert.Kernel4Ideal.nD) → Buf (Elt Ideal) ((c.tc : Thread Cert.Kernel4Ideal.nD Cert.Kernel4Ideal.τ).loc Cert.Kernel4Ideal.main_v2_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_v2_6) = v6 c
          ∧ r.2.mem ((c.tc : Thread Cert.Kernel4Ideal.nD Cert.Kernel4Ideal.τ).loc Cert.Kernel4Ideal.main_v2_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_v72) = v4 c
          ∧ r.2.mem ((c.tc : Thread Cert.Reference4Ideal.nD Cert.Reference4Ideal.τ).loc Cert.Reference4Ideal.main_v79) = v5 c
          ∧ r.2.mem ((c.tc : Thread Cert.Reference4Ideal.nD Cert.Reference4Ideal.τ).loc Cert.Reference4Ideal.main_v86) = v6 c
          ∧ r.2.mem ((c.tc : Thread Cert.Reference4Ideal.nD Cert.Reference4Ideal.τ).loc Cert.Reference4Ideal.main_v93) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v266) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Kernel2.lean ====
abbrev S8x4096x1024 : Shape := ⟨3, ![8, 4096, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S1x512x1024 : Shape := ⟨3, ![1, 512, 1024]⟩
abbrev S1x9x1024 : Shape := ⟨3, ![1, 9, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩

abbrev nBuf : Space → Nat
  | .hbm => 18
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x2816, .f32⟩
  | .hbm, ⟨9, _⟩ => ⟨S1024x11x256, .f32⟩
  | .hbm, ⟨10, _⟩ => ⟨S1024x2816, .f32⟩
  | .hbm, ⟨11, _⟩ => ⟨S1024x11x256, .f32⟩
  | .hbm, ⟨12, _⟩ => ⟨S1024x11x512, .f32⟩
  | .hbm, ⟨13, _⟩ => ⟨S11x1024x512, .f32⟩
  | .hbm, ⟨14, _⟩ => ⟨S11x1024x512, .bf16⟩
  | .hbm, ⟨15, _⟩ => ⟨S2816x1024, .bf16⟩
  | .hbm, ⟨16, _⟩ => ⟨S1x1024, .f32⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S11x1024x512, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S1024x5632, .f32⟩
  | .hbm, ⟨43, _⟩ => ⟨S2816x1024, .f32⟩
  | .hbm, ⟨44, _⟩ => ⟨S8x4096x5632, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S1x512x1024 : Shape := ⟨3, ![1, 512, 1024]⟩
abbrev S1x9x1024 : Shape := ⟨3, ![1, 9, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩

abbrev nBuf : Space → Nat
  | .hbm => 18
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x2816, .f32⟩
  | .hbm, ⟨9, _⟩ => ⟨S1024x11x256, .f32⟩
  | .hbm, ⟨10, _⟩ => ⟨S1024x2816, .f32⟩
  | .hbm, ⟨11, _⟩ => ⟨S1024x11x256, .f32⟩
  | .hbm, ⟨12, _⟩ => ⟨S1024x11x512, .f32⟩
  | .hbm, ⟨13, _⟩ => ⟨S11x1024x512, .f32⟩
  | .hbm, ⟨14, _⟩ => ⟨S11x1024x512, .bf16⟩
  | .hbm, ⟨15, _⟩ => ⟨S2816x1024, .bf16⟩
  | .hbm, ⟨16, _⟩ => ⟨S1x1024, .f32⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S11x1024x512, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x4096x1024 : Shape := ⟨3, ![8, 4096, 1024]⟩
abbrev S8x9x1024 : Shape := ⟨3, ![8, 9, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S1024x5632, .f32⟩
  | .hbm, ⟨43, _⟩ => ⟨S2816x1024, .f32⟩
  | .hbm, ⟨44, _⟩ => ⟨S8x4096x5632, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x9x1024 : Shape := ⟨3, ![8, 9, 1024]⟩
abbrev S1x1024 : Shape := ⟨2, ![1, 1024]⟩
abbrev S1x1024x8192 : Shape := ⟨3, ![1, 1024, 8192]⟩
abbrev S2x1024 : Shape := ⟨2, ![2, 1024]⟩
abbrev S1024x8192 : Shape := ⟨2, ![1024, 8192]⟩
abbrev S1x256x1024 : Shape := ⟨3, ![1, 256, 1024]⟩
abbrev S1x9x1024 : Shape := ⟨3, ![1, 9, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1024x1024 : Shape := ⟨2, ![1024, 1024]⟩

abbrev nBuf : Space → Nat
  | .hbm => 15
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1x1024, .f32⟩
  | .hbm, ⟨3, _⟩ => ⟨S1x1024x8192, .f32⟩
  | .hbm, ⟨4, _⟩ => ⟨S2x1024, .f32⟩
  | .hbm, ⟨5, _⟩ => ⟨S1024x8192, .f32⟩
  | .hbm, ⟨6, _⟩ => ⟨S1024x8192, .bf16⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .bf16⟩
  | .hbm, ⟨11, _⟩ => ⟨S8x4096x1024, .bf16⟩
  | .hbm, ⟨12, _⟩ => ⟨S8x4096x1024, .f32⟩
  | .hbm, ⟨13, _⟩ => ⟨S8x4096x1024, .bf16⟩
  | .hbm, ⟨14, _⟩ => ⟨S8x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x8192, .bf16⟩
  | .local _ .vmem, ⟨6, _⟩ => ⟨S2x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .f32⟩
  | .local _ .vmem, ⟨18, _⟩ => ⟨S1x256x1024, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev main_v2_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S8x4096x1024 : Shape := ⟨3, ![8, 4096, 1024]⟩
abbrev S8x9x1024 : Shape := ⟨3, ![8, 9, 1024]⟩
abbrev S1x1024 : Shape := ⟨2, ![1, 1024]⟩
abbrev S1x1024x8192 : Shape := ⟨3, ![1, 1024, 8192]⟩
abbrev S2x1024 : Shape := ⟨2, ![2, 1024]⟩
abbrev S_ : Shape := ⟨0, ![]⟩
abbrev S1024 : Shape := ⟨1, ![1024]⟩
abbrev S8x1x1024 : Shape := ⟨3, ![8, 1, 1024]⟩
abbrev S8x1024 : Shape := ⟨2, ![8, 1024]⟩
abbrev S8x4096 : Shape := ⟨2, ![8, 4096]⟩
abbrev S8x4096x1 : Shape := ⟨3, ![8, 4096, 1]⟩
abbrev S1x1x1024 : Shape := ⟨3, ![1, 1, 1024]⟩
abbrev S1024x8192 : Shape := ⟨2, ![1024, 8192]⟩
abbrev S8x4096x8192 : Shape := ⟨3, ![8, 4096, 8192]⟩

abbrev nBuf : Space → Nat
  | .hbm => 135
  | .vmem => 0
  | .smem => 0
  | _ => 0

abbrev hbmTy0_0 (i : Nat) : BufTy := match i % 128 with
  | 0 => ⟨S8x4096x1024, .f32⟩
  | 1 => ⟨S8x9x1024, .f32⟩
  | 2 => ⟨S1x1024, .f32⟩
  | 3 => ⟨S1x1024x8192, .f32⟩
  | 4 => ⟨S2x1024, .f32⟩
  | 5 => ⟨S_, .f32⟩
  | 6 => ⟨S1024, .f32⟩
  | 7 => ⟨S_, .f32⟩
  | 8 => ⟨S1024, .f32⟩
  | 9 => ⟨S1024, .f32⟩
  | 10 => ⟨S1x1024, .f32⟩
  | 11 => ⟨S2x1024, .f32⟩
  | 12 => ⟨S2x1024, .f32⟩
  | 13 => ⟨S2x1024, .f32⟩
  | 14 => ⟨S_, .f32⟩
  | 15 => ⟨S1024, .f32⟩
  | 16 => ⟨S1x1024, .f32⟩
  | 17 => ⟨S2x1024, .f32⟩
  | 18 => ⟨S2x1024, .f32⟩
  | 19 => ⟨S_, .f32⟩
  | 20 => ⟨S_, .f32⟩
  | 21 => ⟨S2x1024, .f32⟩
  | 22 => ⟨S1x1024, .f32⟩
  | 23 => ⟨S1024, .f32⟩
  | 24 => ⟨S8x1x1024, .f32⟩
  | 25 => ⟨S8x1024, .f32⟩
  | 26 => ⟨S8x1x1024, .f32⟩
  | 27 => ⟨S8x1x1024, .f32⟩
  | 28 => ⟨S8x1024, .f32⟩
  | 29 => ⟨S8x1x1024, .f32⟩
  | 30 => ⟨S1024, .f32⟩
  | 31 => ⟨S8x4096x1024, .f32⟩
  | 32 => ⟨S_, .f32⟩
  | 33 => ⟨S8x4096, .f32⟩
  | 34 => ⟨S8x4096x1, .f32⟩
  | 35 => ⟨S_, .f32⟩
  | 36 => ⟨S8x4096x1, .f32⟩
  | 37 => ⟨S8x4096x1, .f32⟩
  | 38 => ⟨S_, .f32⟩
  | 39 => ⟨S8x4096x1, .f32⟩
  | 40 => ⟨S8x4096x1, .f32⟩
  | 41 => ⟨S8x4096x1, .f32⟩
  | 42 => ⟨S8x4096x1024, .f32⟩
  | 43 => ⟨S8x4096x1024, .f32⟩
  | 44 => ⟨S1x1x1024, .f32⟩
  | 45 => ⟨S8x4096x1024, .f32⟩
  | 46 => ⟨S8x4096x1024, .f32⟩
  | 47 => ⟨S_, .f32⟩
  | 48 => ⟨S8x1x1024, .f32⟩
  | 49 => ⟨S8x1x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S1024x8192, .f32⟩
  | 55 => ⟨S8x4096x8192, .f32⟩
  | 56 => ⟨S8x4096x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S8x4096x1024, .f32⟩
  | 66 => ⟨S_, .f32⟩
  | 67 => ⟨S8x4096x1024, .f32⟩
  | 68 => ⟨S8x4096x1024, .f32⟩
  | 69 => ⟨S_, .f32⟩
  | 70 => ⟨S8x4096x1024, .f32⟩
  | 71 => ⟨S8x4096x1024, .f32⟩
  | 72 => ⟨S8x4096x1024, .f32⟩
  | 73 => ⟨S_, .f32⟩
  | 74 => ⟨S8x4096x1024, .f32⟩
  | 75 => ⟨S8x4096x1024, .f32⟩
  | 76 => ⟨S_, .f32⟩
  | 77 => ⟨S1024, .f32⟩
  | 78 => ⟨S1024, .f32⟩
  | 79 => ⟨S8x4096x1024, .f32⟩
  | 80 => ⟨S8x4096x1024, .f32⟩
  | 81 => ⟨S_, .f32⟩
  | 82 => ⟨S8x4096x1024, .f32⟩
  | 83 => ⟨S8x4096x1024, .f32⟩
  | 84 => ⟨S_, .f32⟩
  | 85 => ⟨S8x4096x1024, .f32⟩
  | 86 => ⟨S8x4096x1024, .f32⟩
  | 87 => ⟨S1x1x1024, .f32⟩
  | 88 => ⟨S8x4096x1024, .f32⟩
  | 89 => ⟨S8x4096x1024, .f32⟩
  | 90 => ⟨S1x1x1024, .f32⟩
  | 91 => ⟨S8x4096x1024, .f32⟩
  | 92 => ⟨S8x4096x1024, .f32⟩
  | 93 => ⟨S8x4096x1024, .f32⟩
  | 94 => ⟨S_, .f32⟩
  | 95 => ⟨S8x4096x1024, .f32⟩
  | 96 => ⟨S8x4096x1024, .f32⟩
  | 97 => ⟨S8x4096x1024, .bf16⟩
  | 98 => ⟨S8x4096x1024, .f32⟩
  | 99 => ⟨S8x4096x1024, .f32⟩
  | 100 => ⟨S_, .f32⟩
  | 101 => ⟨S8x4096x1024, .f32⟩
  | 102 => ⟨S8x4096x1024, .f32⟩
  | 103 => ⟨S_, .f32⟩
  | 104 => ⟨S8x4096x1024, .f32⟩
  | 105 => ⟨S8x4096x1024, .f32⟩
  | 106 => ⟨S8x4096x1024, .f32⟩
  | 107 => ⟨S8x4096x1024, .bf16⟩
  | 108 => ⟨S8x4096x1024, .f32⟩
  | 109 => ⟨S8x4096x1024, .f32⟩
  | 110 => ⟨S_, .f32⟩
  | 111 => ⟨S8x4096x1024, .f32⟩
  | 112 => ⟨S8x4096x1024, .f32⟩
  | 113 => ⟨S_, .f32⟩
  | 114 => ⟨S8x4096x1024, .f32⟩
  | 115 => ⟨S8x4096x1024, .f32⟩
  | 116 => ⟨S8x4096x1024, .f32⟩
  | 117 => ⟨S8x4096x1024, .f32⟩
  | 118 => ⟨S8x4096x1024, .f32⟩
  | 119 => ⟨S_, .f32⟩
  | 120 => ⟨S8x4096x1024, .f32⟩
  | 121 => ⟨S8x4096x1024, .f32⟩
  | 122 => ⟨S_, .f32⟩
  | 123 => ⟨S8x4096x1024, .f32⟩
  | 124 => ⟨S8x4096x1024, .f32⟩
  | 125 => ⟨S8x4096x1024, .bf16⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S_, .f32⟩
  | 1 => ⟨S8x4096x1024, .f32⟩
  | 2 => ⟨S8x4096x1024, .f32⟩
  | 3 => ⟨S_, .f32⟩
  | 4 => ⟨S8x4096x1024, .f32⟩
  | 5 => ⟨S8x4096x1024, .f32⟩
  | 6 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_cst_12 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_13 : Ref sig .tc := ⟨.hbm, 119, rfl⟩
abbrev main_v82 : Ref sig .tc := ⟨.hbm, 120, rfl⟩
abbrev main_v83 : Ref sig .tc := ⟨.hbm, 121, rfl⟩
abbrev main_cst_14 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_cst_16 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x9x1024 : Shape := ⟨3, ![8, 9, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S31x1024 : Shape := ⟨2, ![31, 1024]⟩
abbrev S1024x1024 : Shape := ⟨2, ![1024, 1024]⟩
abbrev S1x256x1024 : Shape := ⟨3, ![1, 256, 1024]⟩
abbrev S1x9x1024 : Shape := ⟨3, ![1, 9, 1024]⟩
abbrev S288x1024 : Shape := ⟨2, ![288, 1024]⟩
abbrev S256x1024 : Shape := ⟨2, ![256, 1024]⟩
abbrev S32x1024 : Shape := ⟨2, ![32, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 21
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S8x4096x1024, .f32⟩
  | .hbm, ⟨3, _⟩ => ⟨S8x4096x1024, .bf16⟩
  | .hbm, ⟨4, _⟩ => ⟨S8x4096x1024, .bf16⟩
  | .hbm, ⟨5, _⟩ => ⟨S8x4096x1024, .bf16⟩
  | .hbm, ⟨6, _⟩ => ⟨S1x31x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S31x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S31x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x256x1024, .f32⟩
  | .local _ .vmem, ⟨20, _⟩ => ⟨S1x256x1024, .f32⟩
  | .local _ .vmem, ⟨21, _⟩ => ⟨S288x1024, .f32⟩
  | .local _ .vmem, ⟨22, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8x4096x1024 : Shape := ⟨3, ![8, 4096, 1024]⟩
abbrev S8x9x1024 : Shape := ⟨3, ![8, 9, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S8x1x1024 : Shape := ⟨3, ![8, 1, 1024]⟩
abbrev S8x1024 : Shape := ⟨2, ![8, 1024]⟩
abbrev S1024x1024 : Shape := ⟨2, ![1024, 1024]⟩
abbrev S31x1024 : Shape := ⟨2, ![31, 1024]⟩
abbrev S1024 : Shape := ⟨1, ![1024]⟩
abbrev S_ : Shape := ⟨0, ![]⟩
abbrev S8x4126x1024 : Shape := ⟨3, ![8, 4126, 1024]⟩
abbrev S1x1x1024 : Shape := ⟨3, ![1, 1, 1024]⟩
abbrev S8x4096 : Shape := ⟨2, ![8, 4096]⟩
abbrev S8x4096x1 : Shape := ⟨3, ![8, 4096, 1]⟩

abbrev nBuf : Space → Nat
  | .hbm => 296
  | .vmem => 0
  | .smem => 0
  | _ => 0

abbrev hbmTy0_0 (i : Nat) : BufTy := match i % 128 with
  | 0 => ⟨S8x4096x1024, .f32⟩
  | 1 => ⟨S8x9x1024, .f32⟩
  | 2 => ⟨S8x4096x1024, .f32⟩
  | 3 => ⟨S8x4096x1024, .bf16⟩
  | 4 => ⟨S8x4096x1024, .bf16⟩
  | 5 => ⟨S8x4096x1024, .bf16⟩
  | 6 => ⟨S1x31x1024, .f32⟩
  | 7 => ⟨S1x1024, .f32⟩
  | 8 => ⟨S1x1024, .f32⟩
  | 9 => ⟨S1x1024, .f32⟩
  | 10 => ⟨S1x1024x1024, .f32⟩
  | 11 => ⟨S1x1024x1024, .f32⟩
  | 12 => ⟨S1x1024x1024, .f32⟩
  | 13 => ⟨S8x1x1024, .f32⟩
  | 14 => ⟨S8x1024, .f32⟩
  | 15 => ⟨S8x1x1024, .f32⟩
  | 16 => ⟨S8x4096x1024, .f32⟩
  | 17 => ⟨S1024x1024, .f32⟩
  | 18 => ⟨S8x4096x1024, .f32⟩
  | 19 => ⟨S31x1024, .f32⟩
  | 20 => ⟨S1024, .f32⟩
  | 21 => ⟨S_, .i32⟩
  | 22 => ⟨S_, .f32⟩
  | 23 => ⟨S8x4126x1024, .f32⟩
  | 24 => ⟨S1x1024, .f32⟩
  | 25 => ⟨S1024, .f32⟩
  | 26 => ⟨S8x4096x1024, .f32⟩
  | 27 => ⟨S1x1x1024, .f32⟩
  | 28 => ⟨S8x4096x1024, .f32⟩
  | 29 => ⟨S8x4096x1024, .f32⟩
  | 30 => ⟨S_, .f32⟩
  | 31 => ⟨S8x4096x1024, .f32⟩
  | 32 => ⟨S8x4096x1024, .f32⟩
  | 33 => ⟨S1x1024, .f32⟩
  | 34 => ⟨S1024, .f32⟩
  | 35 => ⟨S8x4096x1024, .f32⟩
  | 36 => ⟨S1x1x1024, .f32⟩
  | 37 => ⟨S8x4096x1024, .f32⟩
  | 38 => ⟨S8x4096x1024, .f32⟩
  | 39 => ⟨S8x4096x1024, .f32⟩
  | 40 => ⟨S1x1024, .f32⟩
  | 41 => ⟨S1024, .f32⟩
  | 42 => ⟨S8x4096x1024, .f32⟩
  | 43 => ⟨S1x1x1024, .f32⟩
  | 44 => ⟨S8x4096x1024, .f32⟩
  | 45 => ⟨S8x4096x1024, .f32⟩
  | 46 => ⟨S8x4096x1024, .f32⟩
  | 47 => ⟨S1x1024, .f32⟩
  | 48 => ⟨S1024, .f32⟩
  | 49 => ⟨S8x4096x1024, .f32⟩
  | 50 => ⟨S1x1x1024, .f32⟩
  | 51 => ⟨S8x4096x1024, .f32⟩
  | 52 => ⟨S8x4096x1024, .f32⟩
  | 53 => ⟨S8x4096x1024, .f32⟩
  | 54 => ⟨S1x1024, .f32⟩
  | 55 => ⟨S1024, .f32⟩
  | 56 => ⟨S8x4096x1024, .f32⟩
  | 57 => ⟨S1x1x1024, .f32⟩
  | 58 => ⟨S8x4096x1024, .f32⟩
  | 59 => ⟨S8x4096x1024, .f32⟩
  | 60 => ⟨S8x4096x1024, .f32⟩
  | 61 => ⟨S1x1024, .f32⟩
  | 62 => ⟨S1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S1x1024, .f32⟩
  | 69 => ⟨S1024, .f32⟩
  | 70 => ⟨S8x4096x1024, .f32⟩
  | 71 => ⟨S1x1x1024, .f32⟩
  | 72 => ⟨S8x4096x1024, .f32⟩
  | 73 => ⟨S8x4096x1024, .f32⟩
  | 74 => ⟨S8x4096x1024, .f32⟩
  | 75 => ⟨S1x1024, .f32⟩
  | 76 => ⟨S1024, .f32⟩
  | 77 => ⟨S8x4096x1024, .f32⟩
  | 78 => ⟨S1x1x1024, .f32⟩
  | 79 => ⟨S8x4096x1024, .f32⟩
  | 80 => ⟨S8x4096x1024, .f32⟩
  | 81 => ⟨S8x4096x1024, .f32⟩
  | 82 => ⟨S1x1024, .f32⟩
  | 83 => ⟨S1024, .f32⟩
  | 84 => ⟨S8x4096x1024, .f32⟩
  | 85 => ⟨S1x1x1024, .f32⟩
  | 86 => ⟨S8x4096x1024, .f32⟩
  | 87 => ⟨S8x4096x1024, .f32⟩
  | 88 => ⟨S8x4096x1024, .f32⟩
  | 89 => ⟨S1x1024, .f32⟩
  | 90 => ⟨S1024, .f32⟩
  | 91 => ⟨S8x4096x1024, .f32⟩
  | 92 => ⟨S1x1x1024, .f32⟩
  | 93 => ⟨S8x4096x1024, .f32⟩
  | 94 => ⟨S8x4096x1024, .f32⟩
  | 95 => ⟨S8x4096x1024, .f32⟩
  | 96 => ⟨S1x1024, .f32⟩
  | 97 => ⟨S1024, .f32⟩
  | 98 => ⟨S8x4096x1024, .f32⟩
  | 99 => ⟨S1x1x1024, .f32⟩
  | 100 => ⟨S8x4096x1024, .f32⟩
  | 101 => ⟨S8x4096x1024, .f32⟩
  | 102 => ⟨S8x4096x1024, .f32⟩
  | 103 => ⟨S1x1024, .f32⟩
  | 104 => ⟨S1024, .f32⟩
  | 105 => ⟨S8x4096x1024, .f32⟩
  | 106 => ⟨S1x1x1024, .f32⟩
  | 107 => ⟨S8x4096x1024, .f32⟩
  | 108 => ⟨S8x4096x1024, .f32⟩
  | 109 => ⟨S8x4096x1024, .f32⟩
  | 110 => ⟨S1x1024, .f32⟩
  | 111 => ⟨S1024, .f32⟩
  | 112 => ⟨S8x4096x1024, .f32⟩
  | 113 => ⟨S1x1x1024, .f32⟩
  | 114 => ⟨S8x4096x1024, .f32⟩
  | 115 => ⟨S8x4096x1024, .f32⟩
  | 116 => ⟨S8x4096x1024, .f32⟩
  | 117 => ⟨S1x1024, .f32⟩
  | 118 => ⟨S1024, .f32⟩
  | 119 => ⟨S8x4096x1024, .f32⟩
  | 120 => ⟨S1x1x1024, .f32⟩
  | 121 => ⟨S8x4096x1024, .f32⟩
  | 122 => ⟨S8x4096x1024, .f32⟩
  | 123 => ⟨S8x4096x1024, .f32⟩
  | 124 => ⟨S1x1024, .f32⟩
  | 125 => ⟨S1024, .f32⟩
  | 126 => ⟨S8x4096x1024, .f32⟩
  | 127 => ⟨S1x1x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S1x1024, .f32⟩
  | 4 => ⟨S1024, .f32⟩
  | 5 => ⟨S8x4096x1024, .f32⟩
  | 6 => ⟨S1x1x1024, .f32⟩
  | 7 => ⟨S8x4096x1024, .f32⟩
  | 8 => ⟨S8x4096x1024, .f32⟩
  | 9 => ⟨S8x4096x1024, .f32⟩
  | 10 => ⟨S1x1024, .f32⟩
  | 11 => ⟨S1024, .f32⟩
  | 12 => ⟨S8x4096x1024, .f32⟩
  | 13 => ⟨S1x1x1024, .f32⟩
  | 14 => ⟨S8x4096x1024, .f32⟩
  | 15 => ⟨S8x4096x1024, .f32⟩
  | 16 => ⟨S8x4096x1024, .f32⟩
  | 17 => ⟨S1x1024, .f32⟩
  | 18 => ⟨S1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x1024, .f32⟩
  | 24 => ⟨S1x1024, .f32⟩
  | 25 => ⟨S1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x1024, .f32⟩
  | 31 => ⟨S1x1024, .f32⟩
  | 32 => ⟨S1024, .f32⟩
  | 33 => ⟨S8x4096x1024, .f32⟩
  | 34 => ⟨S1x1x1024, .f32⟩
  | 35 => ⟨S8x4096x1024, .f32⟩
  | 36 => ⟨S8x4096x1024, .f32⟩
  | 37 => ⟨S8x4096x1024, .f32⟩
  | 38 => ⟨S1x1024, .f32⟩
  | 39 => ⟨S1024, .f32⟩
  | 40 => ⟨S8x4096x1024, .f32⟩
  | 41 => ⟨S1x1x1024, .f32⟩
  | 42 => ⟨S8x4096x1024, .f32⟩
  | 43 => ⟨S8x4096x1024, .f32⟩
  | 44 => ⟨S8x4096x1024, .f32⟩
  | 45 => ⟨S1x1024, .f32⟩
  | 46 => ⟨S1024, .f32⟩
  | 47 => ⟨S8x4096x1024, .f32⟩
  | 48 => ⟨S1x1x1024, .f32⟩
  | 49 => ⟨S8x4096x1024, .f32⟩
  | 50 => ⟨S8x4096x1024, .f32⟩
  | 51 => ⟨S8x4096x1024, .f32⟩
  | 52 => ⟨S1x1024, .f32⟩
  | 53 => ⟨S1024, .f32⟩
  | 54 => ⟨S8x4096x1024, .f32⟩
  | 55 => ⟨S1x1x1024, .f32⟩
  | 56 => ⟨S8x4096x1024, .f32⟩
  | 57 => ⟨S8x4096x1024, .f32⟩
  | 58 => ⟨S8x4096x1024, .f32⟩
  | 59 => ⟨S1x1024, .f32⟩
  | 60 => ⟨S1024, .f32⟩
  | 61 => ⟨S8x4096x1024, .f32⟩
  | 62 => ⟨S1x1x1024, .f32⟩
  | 63 => ⟨S8x4096x1024, .f32⟩
  | 64 => ⟨S8x4096x1024, .f32⟩
  | 65 => ⟨S8x4096x1024, .f32⟩
  | 66 => ⟨S1x1024, .f32⟩
  | 67 => ⟨S1024, .f32⟩
  | 68 => ⟨S8x4096x1024, .f32⟩
  | 69 => ⟨S1x1x1024, .f32⟩
  | 70 => ⟨S8x4096x1024, .f32⟩
  | 71 => ⟨S8x4096x1024, .f32⟩
  | 72 => ⟨S8x4096x1024, .f32⟩
  | 73 => ⟨S1x1024, .f32⟩
  | 74 => ⟨S1024, .f32⟩
  | 75 => ⟨S8x4096x1024, .f32⟩
  | 76 => ⟨S1x1x1024, .f32⟩
  | 77 => ⟨S8x4096x1024, .f32⟩
  | 78 => ⟨S8x4096x1024, .f32⟩
  | 79 => ⟨S8x4096x1024, .f32⟩
  | 80 => ⟨S1x1024, .f32⟩
  | 81 => ⟨S1024, .f32⟩
  | 82 => ⟨S8x4096x1024, .f32⟩
  | 83 => ⟨S1x1x1024, .f32⟩
  | 84 => ⟨S8x4096x1024, .f32⟩
  | 85 => ⟨S8x4096x1024, .f32⟩
  | 86 => ⟨S8x4096x1024, .f32⟩
  | 87 => ⟨S1x1024, .f32⟩
  | 88 => ⟨S1024, .f32⟩
  | 89 => ⟨S8x4096x1024, .f32⟩
  | 90 => ⟨S1x1x1024, .f32⟩
  | 91 => ⟨S8x4096x1024, .f32⟩
  | 92 => ⟨S8x4096x1024, .f32⟩
  | 93 => ⟨S8x4096x1024, .f32⟩
  | 94 => ⟨S1x1024, .f32⟩
  | 95 => ⟨S1024, .f32⟩
  | 96 => ⟨S8x4096x1024, .f32⟩
  | 97 => ⟨S1x1x1024, .f32⟩
  | 98 => ⟨S8x4096x1024, .f32⟩
  | 99 => ⟨S8x4096x1024, .f32⟩
  | 100 => ⟨S8x4096x1024, .f32⟩
  | 101 => ⟨S1x1024, .f32⟩
  | 102 => ⟨S1024, .f32⟩
  | 103 => ⟨S8x4096x1024, .f32⟩
  | 104 => ⟨S1x1x1024, .f32⟩
  | 105 => ⟨S8x4096x1024, .f32⟩
  | 106 => ⟨S8x4096x1024, .f32⟩
  | 107 => ⟨S8x4096x1024, .f32⟩
  | 108 => ⟨S1x1024, .f32⟩
  | 109 => ⟨S1024, .f32⟩
  | 110 => ⟨S8x4096x1024, .f32⟩
  | 111 => ⟨S1x1x1024, .f32⟩
  | 112 => ⟨S8x4096x1024, .f32⟩
  | 113 => ⟨S8x4096x1024, .f32⟩
  | 114 => ⟨S8x4096x1024, .f32⟩
  | 115 => ⟨S1x1x1024, .f32⟩
  | 116 => ⟨S8x4096x1024, .f32⟩
  | 117 => ⟨S8x4096x1024, .f32⟩
  | 118 => ⟨S1024, .f32⟩
  | 119 => ⟨S1024, .f32⟩
  | 120 => ⟨S_, .f32⟩
  | 121 => ⟨S8x4096, .f32⟩
  | 122 => ⟨S8x4096x1, .f32⟩
  | 123 => ⟨S_, .f32⟩
  | 124 => ⟨S8x4096x1, .f32⟩
  | 125 => ⟨S8x4096x1, .f32⟩
  | 126 => ⟨S8x4096x1024, .f32⟩
  | 127 => ⟨S8x4096x1024, .f32⟩
  | _ => ⟨S8x4096x1024, .f32⟩

abbrev hbmTy0_2 (i : Nat) : BufTy := match i % 128 with
  | 0 => ⟨S8x4096x1024, .f32⟩
  | 1 => ⟨S_, .f32⟩
  | 2 => ⟨S8x4096, .f32⟩
  | 3 => ⟨S8x4096x1, .f32⟩
  | 4 => ⟨S_, .f32⟩
  | 5 => ⟨S8x4096x1, .f32⟩
  | 6 => ⟨S8x4096x1, .f32⟩
  | 7 => ⟨S_, .f32⟩
  | 8 => ⟨S8x4096x1, .f32⟩
  | 9 => ⟨S8x4096x1, .f32⟩
  | 10 => ⟨S8x4096x1, .f32⟩
  | 11 => ⟨S8x4096x1024, .f32⟩
  | 12 => ⟨S8x4096x1024, .f32⟩
  | 13 => ⟨S1x1x1024, .f32⟩
  | 14 => ⟨S8x4096x1024, .f32⟩
  | 15 => ⟨S8x4096x1024, .f32⟩
  | 16 => ⟨S1x1x1024, .f32⟩
  | 17 => ⟨S8x4096x1024, .f32⟩
  | 18 => ⟨S8x4096x1024, .f32⟩
  | 19 => ⟨S8x4096x1024, .f32⟩
  | 20 => ⟨S8x4096x1024, .f32⟩
  | 21 => ⟨S_, .f32⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S8x4096x1024, .f32⟩
  | 28 => ⟨S1024x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S1024x1024, .f32⟩
  | 36 => ⟨S8x4096x1024, .f32⟩
  | 37 => ⟨S8x4096x1024, .f32⟩
  | 38 => ⟨S8x4096x1024, .f32⟩
  | 39 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_cst_0 : Ref sig .tc := ⟨.hbm, 248, rfl⟩
abbrev main_v232 : Ref sig .tc := ⟨.hbm, 249, rfl⟩
abbrev main_v233 : Ref sig .tc := ⟨.hbm, 250, rfl⟩
abbrev main_cst_1 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_cst_2 : Ref sig .tc := ⟨.hbm, 257, rfl⟩
abbrev main_v239 : Ref sig .tc := ⟨.hbm, 258, rfl⟩
abbrev main_v240 : Ref sig .tc := ⟨.hbm, 259, rfl⟩
abbrev main_cst_3 : Ref sig .tc := ⟨.hbm, 260, rfl⟩
abbrev main_v241 : Ref sig .tc := ⟨.hbm, 261, rfl⟩
abbrev main_v242 : Ref sig .tc := ⟨.hbm, 262, rfl⟩
abbrev main_cst_4 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_call1_v0 : Ref sig .tc := ⟨.hbm, 275, rfl⟩
abbrev main_call1_v1 : Ref sig .tc := ⟨.hbm, 276, rfl⟩
abbrev main_call1_cst : Ref sig .tc := ⟨.hbm, 277, rfl⟩
abbrev main_call1_v2 : Ref sig .tc := ⟨.hbm, 278, rfl⟩
abbrev main_call1_v3 : Ref sig .tc := ⟨.hbm, 279, rfl⟩
abbrev main_call1_cst_0 : Ref sig .tc := ⟨.hbm, 280, rfl⟩
abbrev main_call1_v4 : Ref sig .tc := ⟨.hbm, 281, rfl⟩
abbrev main_call1_v5 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩

abbrev nD : Nat := 1
abbrev τ : Topo := Topo.v7x

variable {F : FTy → Type} [FloatOps F]
-- ==== Kernel6.lean ====
abbrev S8x1024 : Shape := ⟨2, ![8, 1024]⟩
abbrev S1x1024x9216 : Shape := ⟨3, ![1, 1024, 9216]⟩
abbrev S1x9216 : Shape := ⟨2, ![1, 9216]⟩
abbrev S1024x9216 : Shape := ⟨2, ![1024, 9216]⟩
abbrev S8x9216 : Shape := ⟨2, ![8, 9216]⟩
abbrev S1024x1024 : Shape := ⟨2, ![1024, 1024]⟩
abbrev S1x1024 : Shape := ⟨2, ![1, 1024]⟩
abbrev S8x9x1024 : Shape := ⟨3, ![8, 9, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x9216, .f32⟩
  | .hbm, ⟨2, _⟩ => ⟨S1x9216, .f32⟩
  | .hbm, ⟨3, _⟩ => ⟨S1024x9216, .f32⟩
  | .hbm, ⟨4, _⟩ => ⟨S8x9216, .f32⟩
  | .hbm, ⟨5, _⟩ => ⟨S8x9x1024, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x1024 : Shape := ⟨2, ![8, 1024]⟩
abbrev S1x1024x9216 : Shape := ⟨3, ![1, 1024, 9216]⟩
abbrev S1x9216 : Shape := ⟨2, ![1, 9216]⟩
abbrev S_ : Shape := ⟨0, ![]⟩
abbrev S1024x9216 : Shape := ⟨2, ![1024, 9216]⟩
abbrev S8x9216 : Shape := ⟨2, ![8, 9216]⟩
abbrev S9216 : Shape := ⟨1, ![9216]⟩
abbrev S8x9x1024 : Shape := ⟨3, ![8, 9, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x9216, .f32⟩
  | .hbm, ⟨2, _⟩ => ⟨S1x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x9216, .f32⟩
  | .hbm, ⟨13, _⟩ => ⟨S8x9216, .f32⟩
  | .hbm, ⟨14, _⟩ => ⟨S9216, .f32⟩
  | .hbm, ⟨15, _⟩ => ⟨S1x9216, .f32⟩
  | .hbm, ⟨16, _⟩ => ⟨S8x9216, .f32⟩
  | .hbm, ⟨17, _⟩ => ⟨S8x9216, .f32⟩
  | .hbm, ⟨18, _⟩ => ⟨S8x9x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel7.lean ====
abbrev S8x4096x1024 : Shape := ⟨3, ![8, 4096, 1024]⟩
abbrev S1x1024 : Shape := ⟨2, ![1, 1024]⟩
abbrev S1x256x1024 : Shape := ⟨3, ![1, 256, 1024]⟩
abbrev S8x128x128 : Shape := ⟨3, ![8, 128, 128]⟩
abbrev S256x1024 : Shape := ⟨2, ![256, 1024]⟩
abbrev S256x256 : Shape := ⟨2, ![256, 256]⟩
abbrev S1x1x1024 : Shape := ⟨3, ![1, 1, 1024]⟩
abbrev S1 : Shape := ⟨1, ![1]⟩
abbrev S1x1x1 : Shape := ⟨3, ![1, 1, 1]⟩
abbrev S64x64 : Shape := ⟨2, ![64, 64]⟩
abbrev S1x128x128 : Shape := ⟨3, ![1, 128, 128]⟩
abbrev S128x128 : Shape := ⟨2, ![128, 128]⟩
abbrev S64x128 : Shape := ⟨2, ![64, 128]⟩
abbrev S1x128 : Shape := ⟨2, ![1, 128]⟩
abbrev S1x64x128 : Shape := ⟨3, ![1, 64, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S64x1 : Shape := ⟨2, ![64, 1]⟩
abbrev S1x8x128 : Shape := ⟨3, ![1, 8, 128]⟩
abbrev S8x128 : Shape := ⟨2, ![8, 128]⟩
abbrev S64 : Shape := ⟨1, ![64]⟩
abbrev S128 : Shape := ⟨1, ![128]⟩

abbrev nBuf : Space → Nat
  | .hbm => 7
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .bf16⟩
  | .hbm, ⟨4, _⟩ => ⟨S8x4096x1024, .bf16⟩
  | .hbm, ⟨5, _⟩ => ⟨S1x1024, .f32⟩
  | .hbm, ⟨6, _⟩ => ⟨S8x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1x256x1024, .bf16⟩
  | .local _ .vmem, ⟨12, _⟩ => ⟨S1x256x1024, .bf16⟩
  | .local _ .vmem, ⟨13, _⟩ => ⟨S8x128x128, .f32⟩
  | .local _ .vmem, ⟨14, _⟩ => ⟨S256x1024, .f32⟩
  | .local _ .vmem, ⟨15, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_22 : BitVec 32 := 0#32
  let c32_i32 : BitVec 32 := 32#32
  let v49 : BitVec 32 := Scalar.addi c0_i32_22 c32_i32
  let c1_i32 : BitVec 32 := 1#32
  ⟨c0_i32_22, v49, c1_i32⟩
def k0_mult1 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  v1138
def k0_mult2 (k0_t1 : Fin k0_t1_loop.trips) : BitVec 32 :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  v1157
def k0_off1 (k0_t1 : Fin k0_t1_loop.trips) : Fin 3 → Nat :=
  let c0_679 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1159 : Index := Scalar.indexCast v1139
  let c0_680 : Index := 0#32
  ![0, v1159.toNat, 0]
def k0_off2 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1162 : Index := Scalar.indexCast v1139
  let c0_681 : Index := 0#32
  ![v1162.toNat, 0]
def k0_off3 (k0_t1 : Fin k0_t1_loop.trips) : Fin 3 → Nat :=
  let c0_682 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1164 : Index := Scalar.indexCast v1158
  let c0_683 : Index := 0#32
  ![0, v1164.toNat, 0]
def k0_off4 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1167 : Index := Scalar.indexCast v1158
  let c0_684 : Index := 0#32
  ![v1167.toNat, 0]
def k0_off5 (k0_t1 : Fin k0_t1_loop.trips) : Fin 3 → Nat :=
  let c0_722 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1370 : Index := Scalar.indexCast v1139
  let c128_723 : Index := 128#32
  ![0, v1370.toNat, 128]
def k0_off6 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1373 : Index := Scalar.indexCast v1139
  let c128_724 : Index := 128#32
  ![v1373.toNat, 128]
def k0_off7 (k0_t1 : Fin k0_t1_loop.trips) : Fin 3 → Nat :=
  let c0_725 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1375 : Index := Scalar.indexCast v1158
  let c128_726 : Index := 128#32
  ![0, v1375.toNat, 128]
def k0_off8 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1378 : Index := Scalar.indexCast v1158
  let c128_727 : Index := 128#32
  ![v1378.toNat, 128]
def k0_off9 (k0_t1 : Fin k0_t1_loop.trips) : Fin 3 → Nat :=
  let c0_771 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1581 : Index := Scalar.indexCast v1139
  let c256_772 : Index := 256#32
  ![0, v1581.toNat, 256]
def k0_off10 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1584 : Index := Scalar.indexCast v1139
  let c256_773 : Index := 256#32
  ![v1584.toNat, 256]
def k0_off11 (k0_t1 : Fin k0_t1_loop.trips) : Fin 3 → Nat :=
  let c0_774 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1586 : Index := Scalar.indexCast v1158
  let c256_775 : Index := 256#32
  ![0, v1586.toNat, 256]
def k0_off12 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1589 : Index := Scalar.indexCast v1158
  let c256_776 : Index := 256#32
  ![v1589.toNat, 256]
def k0_off13 (k0_t1 : Fin k0_t1_loop.trips) : Fin 3 → Nat :=
  let c0_820 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1792 : Index := Scalar.indexCast v1139
  let c384_821 : Index := 384#32
  ![0, v1792.toNat, 384]
def k0_off14 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v1795 : Index := Scalar.indexCast v1139
  let c384_822 : Index := 384#32
  ![v1795.toNat, 384]
def k0_off15 (k0_t1 : Fin k0_t1_loop.trips) : Fin 3 → Nat :=
  let c0_823 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1797 : Index := Scalar.indexCast v1158
  let c384_824 : Index := 384#32
  ![0, v1797.toNat, 384]
def k0_off16 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v1800 : Index := Scalar.indexCast v1158
  let c384_825 : Index := 384#32
  ![v1800.toNat, 384]
def k0_off17 (k0_t1 : Fin k0_t1_loop.trips) : Fin 3 → Nat :=
  let c0_869 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2003 : Index := Scalar.indexCast v1139
  let c512_870 : Index := 512#32
  ![0, v2003.toNat, 512]
def k0_off18 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2006 : Index := Scalar.indexCast v1139
  let c512_871 : Index := 512#32
  ![v2006.toNat, 512]
def k0_off19 (k0_t1 : Fin k0_t1_loop.trips) : Fin 3 → Nat :=
  let c0_872 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2008 : Index := Scalar.indexCast v1158
  let c512_873 : Index := 512#32
  ![0, v2008.toNat, 512]
def k0_off20 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2011 : Index := Scalar.indexCast v1158
  let c512_874 : Index := 512#32
  ![v2011.toNat, 512]
def k0_off21 (k0_t1 : Fin k0_t1_loop.trips) : Fin 3 → Nat :=
  let c0_918 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2214 : Index := Scalar.indexCast v1139
  let c640_919 : Index := 640#32
  ![0, v2214.toNat, 640]
def k0_off22 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2217 : Index := Scalar.indexCast v1139
  let c640_920 : Index := 640#32
  ![v2217.toNat, 640]
def k0_off23 (k0_t1 : Fin k0_t1_loop.trips) : Fin 3 → Nat :=
  let c0_921 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2219 : Index := Scalar.indexCast v1158
  let c640_922 : Index := 640#32
  ![0, v2219.toNat, 640]
def k0_off24 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2222 : Index := Scalar.indexCast v1158
  let c640_923 : Index := 640#32
  ![v2222.toNat, 640]
def k0_off25 (k0_t1 : Fin k0_t1_loop.trips) : Fin 3 → Nat :=
  let c0_967 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2425 : Index := Scalar.indexCast v1139
  let c768_968 : Index := 768#32
  ![0, v2425.toNat, 768]
def k0_off26 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2428 : Index := Scalar.indexCast v1139
  let c768_969 : Index := 768#32
  ![v2428.toNat, 768]
def k0_off27 (k0_t1 : Fin k0_t1_loop.trips) : Fin 3 → Nat :=
  let c0_970 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2430 : Index := Scalar.indexCast v1158
  let c768_971 : Index := 768#32
  ![0, v2430.toNat, 768]
def k0_off28 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2433 : Index := Scalar.indexCast v1158
  let c768_972 : Index := 768#32
  ![v2433.toNat, 768]
def k0_off29 (k0_t1 : Fin k0_t1_loop.trips) : Fin 3 → Nat :=
  let c0_1016 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2636 : Index := Scalar.indexCast v1139
  let c896_1017 : Index := 896#32
  ![0, v2636.toNat, 896]
def k0_off30 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let v2639 : Index := Scalar.indexCast v1139
  let c896_1018 : Index := 896#32
  ![v2639.toNat, 896]
def k0_off31 (k0_t1 : Fin k0_t1_loop.trips) : Fin 3 → Nat :=
  let c0_1019 : Index := 0#32
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2641 : Index := Scalar.indexCast v1158
  let c896_1020 : Index := 896#32
  ![0, v2641.toNat, 896]
def k0_off32 (k0_t1 : Fin k0_t1_loop.trips) : Fin 2 → Nat :=
  let c0_i32_22 : BitVec 32 := 0#32
  let c1_i32 : BitVec 32 := 1#32
  let arg12 : BitVec 32 := Scf.iv c0_i32_22 c1_i32 k0_t1
  let c8_i32 : BitVec 32 := 8#32
  let v1138 : BitVec 32 := Scalar.muli arg12 c8_i32
  let v1139 : BitVec 32 := v1138
  let c0_i32_672 : BitVec 32 := 0#32
  let v1141 : BitVec 1 := Scalar.cmpi .sgt v1139 c0_i32_672
  let v1142 : BitVec 32 := Scalar.extui v1141
  let c0_i32_673 : BitVec 32 := 0#32
  let v1143 : BitVec 1 := Scalar.cmpi .slt v1139 c0_i32_673
  let v1144 : BitVec 32 := Scalar.extui v1143
  let v1145 : BitVec 32 := Scalar.subi v1142 v1144
  let c64_i32 : BitVec 32 := 64#32
  let c0_i32_674 : BitVec 32 := 0#32
  let v1146 : BitVec 1 := Scalar.cmpi .sgt c64_i32 c0_i32_674
  let v1147 : BitVec 32 := Scalar.extui v1146
  let c0_i32_675 : BitVec 32 := 0#32
  let v1148 : BitVec 1 := Scalar.cmpi .slt c64_i32 c0_i32_675
  let v1149 : BitVec 32 := Scalar.extui v1148
  let v1150 : BitVec 32 := Scalar.subi v1147 v1149
  let v1151 : BitVec 1 := Scalar.cmpi .ne v1145 v1150
  let v1152 : BitVec 32 := Scalar.remsi v1139 c64_i32
  let c0_i32_676 : BitVec 32 := 0#32
  let v1153 : BitVec 1 := Scalar.cmpi .ne v1152 c0_i32_676
  let v1154 : BitVec 1 := Scalar.andi v1151 v1153
  let v1140 : BitVec 32 := Scalar.divsi v1139 c64_i32
  let c1_i32_677 : BitVec 32 := 1#32
  let v1155 : BitVec 32 := Scalar.subi v1140 c1_i32_677
  let v1156 : BitVec 32 := Scalar.select v1154 v1155 v1140
  let c64_i32_678 : BitVec 32 := 64#32
  let v1157 : BitVec 32 := Scalar.muli v1156 c64_i32_678
  let v1158 : BitVec 32 := v1157
  let v2644 : Index := Scalar.indexCast v1158
  let c896_1021 : Index := 896#32
  ![v2644.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Keeps.lean ====
module
public import Idealize.ShloMosaic.Lib.Pipeline.FrameBody
public import Idealize.ShloMosaic.Lib.Tactic
/-!
Programs that keep an assertion: run from it they fault nowhere and end in it again, whatever they compute. An assertion
that owns buffers at contents it does not name is kept by every load from them and every store into them, and what
keeps it is closed under sequencing, branching and counted loops.
-/
@[expose] public section
noncomputable section
namespace Cert.Keeps
open Idealize.ShloMosaic
open Idealize.SL Idealize.SL.RA Idealize.SL.Sem Idealize.SL.ProofMode Idealize.SL.BI
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U] {Lvl : Type} {Λ : Labels} [Preorder Lvl]
variable {defs : Defs nD τ sig Val Λ} {𝒱 : Variants} {c : Thread nD τ} {E : Set Name}
variable {I J : sProp (MT nD τ sig Ix Val Name U Lvl)} {α β : Type}

/-- The program runs from the assertion `I` to the assertion `I`, whatever it returns. -/
def Keeps (defs : Defs nD τ sig Val Λ) (𝒱 : Variants) (c : Thread nD τ) (E : Set Name)
    (I : sProp (MT nD τ sig Ix Val Name U Lvl)) (p : Prog (TpuEff nD τ sig Val Λ c.2) α) : Prop :=
  I ⊢ wp frame (wpE defs 𝒱 c none) E p fun _ => I

/-- The assertion owns the memref's elements whole, at some contents, and holds again at any others. -/
def Owns (c : Thread nD τ) {cs : CoreSpace} {s : Shape} {e : EltTy} (I : sProp (MT nD τ sig Ix Val Name U Lvl))
    (m : Memref sig c.2.kind cs s e) : Prop :=
  I ⊢ iprop(∃ f : Buf Val (m.view.loc c), (m.view.loc c ↦[m.view.set]{fullShare} f)
    ∗ (∀ f' : Buf Val (m.view.loc c), (m.view.loc c ↦[m.view.set]{fullShare} f') -∗ I))

/-- Returning a value keeps any assertion. -/
theorem Keeps.pure (a : α) : Keeps defs 𝒱 c E I (Pure.pure a) :=
  show I ⊢ wp frame (wpE defs 𝒱 c none) E (.ret a) fun _ => I from le_wp_ret frame (wpE defs 𝒱 c none) E a fun _ => I

/-- One program after another. -/
theorem Keeps.bind {p : Prog (TpuEff nD τ sig Val Λ c.2) α} {k : α → Prog (TpuEff nD τ sig Val Λ c.2) β}
    (hp : Keeps defs 𝒱 c E I p) (hk : ∀ a, Keeps defs 𝒱 c E I (k a)) : Keeps defs 𝒱 c E I (p >>= k) := by
  unfold Keeps
  rw [wp_bind]
  exact BIBase.Entails.trans hp (wp_mono _ _ _ hk)

/-- A branch. -/
theorem Keeps.ite {b : Prop} [Decidable b] {p q : Prog (TpuEff nD τ sig Val Λ c.2) α} (hp : Keeps defs 𝒱 c E I p)
    (hq : Keeps defs 𝒱 c E I q) : Keeps defs 𝒱 c E I (if b then p else q) := by
  split
  · exact hp
  · exact hq

/-- A branch whose arms may use the outcome of the test. -/
theorem Keeps.dite {b : Prop} [Decidable b] {p : b → Prog (TpuEff nD τ sig Val Λ c.2) α} {q : ¬b → Prog (TpuEff nD τ sig Val Λ c.2) α}
    (hp : ∀ h, Keeps defs 𝒱 c E I (p h)) (hq : ∀ h, Keeps defs 𝒱 c E I (q h)) : Keeps defs 𝒱 c E I (if h : b then p h else q h) := by
  split
  · exact hp _
  · exact hq _

/-- A counted loop. -/
theorem Keeps.loop {w : Nat} {lb ub st : BitVec w} {hok : Scf.OK lb ub st} {init : α}
    {body : Fin (Scf.trips lb ub st) → α → Prog (TpuEff nD τ sig Val Λ c.2) α} (h : ∀ k a, Keeps defs 𝒱 c E I (body k a)) :
    Keeps defs 𝒱 c E I (Scf.for lb ub st hok init body) := by
  unfold Keeps
  iintro H
  iapply (Scf.wp_for frame (wpE defs 𝒱 c none) E lb ub st hok init body (fun _ _ => I) h)
  isplitl [H]
  · iexact H
  · iintro %_ H
    iexact H

/-- A load from a memref the assertion owns. -/
theorem Keeps.load {cs : CoreSpace} {s : Shape} {e : EltTy} {m : Memref sig c.2.kind cs s e} (hm : Owns c I m) {r : LoadRect s}
    {hl : m.view.LoadsAt r} : Keeps defs 𝒱 c E I (Prog.lift (.load m r hl)) := by
  unfold Keeps
  refine BIBase.Entails.trans hm ?_
  iintro ⟨%f, H, HI⟩
  iapply (wp_load (defs := defs) 𝒱 c none E (m := m) (r := r) (hl := hl) (View.setOn_subset_set _ _)) $$ H
  iintro H
  iapply (le_wp_ret frame (wpE defs 𝒱 c none) E _ fun _ => I)
  iapply HI
  iexact H

/-- An unmasked store into a memref the assertion owns. -/
theorem Keeps.store {cs : CoreSpace} {s : Shape} {e : EltTy} {m : Memref sig c.2.kind cs s e} (hm : Owns c I m) {r : Rect s}
    {w : r.shape.Idx → Val e} {hx : (m.access r).Stores Finset.univ} {hu : Finset.univ = Finset.univ ∨ ∀ a, r.stride a = 1} :
    Keeps defs 𝒱 c E I (Prog.lift (.store m r w Finset.univ hx hu)) := by
  unfold Keeps
  refine BIBase.Entails.trans hm ?_
  iintro ⟨%f, H, HI⟩
  iapply (wp_store_writes₀ (defs := defs) 𝒱 c none E (m := m) (r := r) (w := w) (hx := hx) (hm := hu) (View.set_slice_subset _ _)) $$ H
  iintro H
  iapply (le_wp_ret frame (wpE defs 𝒱 c none) E _ fun _ => I)
  iapply HI
  iexact H

/-- An assertion of the memref's contents, whatever they are, owns it. -/
theorem Owns.self {cs : CoreSpace} {s : Shape} {e : EltTy} (m : Memref sig c.2.kind cs s e) :
    Owns c (iprop(∃ X, owns c m fullShare X) : sProp (MT nD τ sig Ix Val Name U Lvl)) m := by
  unfold Owns owns
  iintro ⟨%X, %f, %_, H⟩
  iexists f
  isplitl [H]
  · iexact H
  · iintro %f' H
    iexists (m.view.read Val f'), f'
    isplitr
    · ipureintro; rfl
    · iexact H

/-- Owning a memref in the first part of a conjunction. -/
theorem Owns.left {cs : CoreSpace} {s : Shape} {e : EltTy} {m : Memref sig c.2.kind cs s e} (h : Owns c I m) : Owns c iprop(I ∗ J) m := by
  unfold Owns
  iintro ⟨HI, HJ⟩
  have h' := show I ⊢ _ from h
  ihave H := h' $$ HI
  icases H with ⟨%f, H, HI⟩
  iexists f
  isplitl [H]
  · iexact H
  · iintro %f' H
    isplitl [HI H]
    · iapply HI; iexact H
    · iexact HJ

/-- Owning a memref in the second part of a conjunction. -/
theorem Owns.right {cs : CoreSpace} {s : Shape} {e : EltTy} {m : Memref sig c.2.kind cs s e} (h : Owns c J m) : Owns c iprop(I ∗ J) m := by
  unfold Owns
  iintro ⟨HI, HJ⟩
  have h' := show J ⊢ _ from h
  ihave H := h' $$ HJ
  icases H with ⟨%f, H, HJ⟩
  iexists f
  isplitl [H]
  · iexact H
  · iintro %f' H
    isplitl [HI]
    · iexact HI
    · iapply HJ; iexact H

end Cert.Keeps
-- ==== Proof.HgrnIdealBody.lean ====
module

public import proofs.«01_k».proof.Proof.Gen.Kernel7Ideal.Frame
public import proofs.«01_k».proof.Proof.Keeps

/-! # One grid point of the idealized recurrence keeps what it owns -/

set_option maxRecDepth 65536
@[expose] public section
noncomputable section
open Idealize.ShloMosaic Idealize.ShloMosaic.TcCoe
open Idealize.SL Idealize.SL.RA Idealize.SL.BI Idealize.SL.Sem
open scoped Idealize.SL.BI
namespace Cert.Kernel7Ideal.Hgrn
open Cert.Kernel7Ideal Cert.Kernel7Ideal.Gen Cert.Keeps
variable {F : FTy → Type} [FloatOps F]
variable (c : Dev nD) (I : sProp (MT nD τ sig Unit (Elt F) ℕ (UR sig nD τ) ℕ))
  (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x1024 .f32) (harg7 : arg7.IsWhole) (arg8 : Memref sig .tc .vmem S1x256x1024 .bf16) (harg8 : arg8.IsWhole) (arg9 : Memref sig .tc .vmem S8x128x128 .f32) (harg9 : arg9.IsWhole) (arg10 : Memref sig .tc .vmem S256x1024 .f32) (harg10 : arg10.IsWhole) (arg11 : Memref sig .tc .vmem S256x1024 .f32) (harg11 : arg11.IsWhole)

set_option maxHeartbeats 4000000 in
/-- The kernel's body, at any grid point: whatever assertion can lend and take back each of its ten buffers at any contents
    is kept by running it. The body branches on whether its chunk is the first of a sequence and on sums it reads back from
    scratch; every arm keeps it. -/
theorem body_keeps (h2 : Owns (c : Thread nD τ) I arg2) (h3 : Owns (c : Thread nD τ) I arg3) (h4 : Owns (c : Thread nD τ) I arg4)
    (h5 : Owns (c : Thread nD τ) I arg5) (h6 : Owns (c : Thread nD τ) I arg6) (h7 : Owns (c : Thread nD τ) I arg7)
    (h8 : Owns (c : Thread nD τ) I arg8) (h9 : Owns (c : Thread nD τ) I arg9) (h10 : Owns (c : Thread nD τ) I arg10)
    (h11 : Owns (c : Thread nD τ) I arg11) :
    Keeps (defs₀ (F := F)) Variants.none (c : Thread nD τ) Set.univ I (cc0_hgrn i arg2 harg2 arg3 harg3 arg4 harg4 arg5 harg5 arg6 harg6 arg7 harg7 arg8 harg8 arg9 harg9 arg10 harg10 arg11 harg11) := by
  unfold cc0_hgrn k0_part101
  repeat' first
    | with_reducible exact Keeps.load (by assumption)
    | with_reducible exact Keeps.store (by assumption)
    | with_reducible exact Keeps.pure _
    | with_reducible refine Keeps.bind ?_ fun _ => ?_
    | with_reducible refine Keeps.loop fun _ _ => ?_
    | with_reducible refine Keeps.ite ?_ ?_
    | with_reducible refine Keeps.dite (fun _ => ?_) fun _ => ?_
    | refine Keeps.bind ?_ fun _ => ?_
    | exact Keeps.pure _
    | refine Keeps.dite (fun _ => ?_) fun _ => ?_

end Cert.Kernel7Ideal.Hgrn

end
-- ==== Proof.HgrnIdealFrame.lean ====
module

public import proofs.«01_k».proof.Proof.HgrnIdealBody

/-! # The idealized recurrence runs and leaves its arguments as they were

Every window of the call is held at contents nobody names: then what a grid point receives and what it gives back are the
same assertion, and `body_keeps` is the whole obligation. An input array is never written back, so it ends as it began. -/

set_option maxRecDepth 16384

@[expose] public section

noncomputable section

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Pipeline (Dat BodyObligationLoose RDat)

namespace Cert.Kernel7Ideal.Hgrn

open Cert.Kernel7Ideal Cert.Kernel7Ideal.Gen Cert.Keeps

variable {F : FTy → Type} [FloatOps F]
variable (m : (ℓ : Loc nD τ sig) → Buf (Elt F) ℓ) (g : Dev nD → PrngReg)

/-- The proof data: the arrays as launched, no contents named of any staging buffer, the scratch buffers at any contents. -/
def dats (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

/-- The data's arrays are the launched ones. -/
theorem A_eq (c : Dev nD) (w : Fin cfg0.W) : (dats m 0 c).A w = V m c (Pipeline.arrRef spec0 w) := by
  dsimp only [dats]

/-- The body the call runs at point `t`. -/
theorem row (t : Fin cfg0.N) : defs₀ (F := F) .tc cfg0.body (cfg0.bodyArgs t (cfg0.slots t)) = bodyAt0 t := by
  unfold defs₀; rw [Defs.onTc_tc]

/-- The invariant between points: the three scratch buffers at any contents, and the generator's register. -/
theorem inv_eq (c : Dev nD) : (Pipeline.ΦA spec0 c : sProp (MT nD τ sig Unit (Elt F) ℕ (UR sig nD τ) ℕ)) =
    iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)) ∗ ∃ r, prngReg c r) := by
  unfold Pipeline.ΦA
  rw [scopedRest0_eq]
  simp only [owns_whole]

/-- What a grid point is handed and gives back: the scratch buffers, the core's tallies, the seven staging buffers. -/
abbrev held (c : Dev nD) (t : Fin cfg0.N) : sProp (MT nD τ sig Unit (Elt F) ℕ (UR sig nD τ) ℕ) :=
  iprop(Pipeline.ΦA spec0 c ∗ (dats m 0 c).owesAt () t.castSucc
    ∗ (∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X))

/-- A grid point keeps what it is handed. -/
theorem point_keeps (c : Dev nD) (t : Fin cfg0.N) :
    Keeps (defs₀ (F := F)) Variants.none (c : Thread nD τ) Set.univ (held m c t) (bodyAt0 t) := by
  refine body_keeps c (held m c t) (grid0.coords t) _ _ _ _ _ _ _ _ _ _ _ _ _ _ _ _ _ _ _ _ ?_ ?_ ?_ ?_ ?_ ?_ ?_ ?_ ?_ ?_
  · exact .right (.right (.left (.self _)))
  · exact .right (.right (.right (.left (.self _))))
  · exact .right (.right (.right (.right (.left (.self _)))))
  · exact .right (.right (.right (.right (.right (.left (.self _))))))
  · exact .right (.right (.right (.right (.right (.right (.left (.self _)))))))
  · exact .right (.right (.right (.right (.right (.right (.right (.left (.self _))))))))
  · exact .right (.right (.right (.right (.right (.right (.right (.right (.self _))))))))
  · exact .left (by rw [inv_eq]; exact .left (.left (.self _)))
  · exact .left (by rw [inv_eq]; exact .left (.right (.left (.self _))))
  · exact .left (by rw [inv_eq]; exact .left (.right (.right (.self _))))

/-- The obligation of every grid point, with no contents named of any window. -/
theorem body (c : Dev nD) : BodyObligationLoose (dats m 0 c) defs₀ Variants.none () Set.univ (fun _ => true) := by
  intro t
  rw [row, bigSep_W0]
  exact point_keeps m c t

set_option backward.isDefEq.respectTransparency.types false in
/-- The call runs, ends with every semaphore at zero, and each of its six argument arrays ends as launched. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget (Q' := _) cfgs (dats m) (0 : Fin 1) launch0 defs₀ Variants.none (fun _ => true) m g main
    (hbody := body m) (hshare := fun c => (dats m 0 c).share_full fun _ => rfl)
    (howed := fun _ _ => rfl) (V := V m) (hmain := hmain m Variants.none) (hA := A_eq m) (hΦ := fun _ _ => rfl)
    (hQ' := fun _ h => ⟨fun c => ⟨(h.1.arr_in c 0 rfl).trans (A_eq m c 0), (h.1.arr_in c 1 rfl).trans (A_eq m c 1),
      (h.1.arr_in c 2 rfl).trans (A_eq m c 2), (h.1.arr_in c 3 rfl).trans (A_eq m c 3),
      (h.1.arr_in c 4 rfl).trans (A_eq m c 4), (h.1.arr_in c 5 rfl).trans (A_eq m c 5)⟩, h.2⟩)

end Cert.Kernel7Ideal.Hgrn

end
-- ==== Proof.Ffn.lean ====
module
public import Idealize.ShloMosaic.Lib.Pointwise

/-!
The feed-forward half-step of one token, as plain functions of its row of features. Both calls of the
feed-forward kernel and both references are compared with these functions.
-/
set_option maxRecDepth 16384

@[expose] public section
noncomputable section

namespace Cert.Ffn
open Idealize.ShloMosaic

/-- The factor of the RMS normalization of a row: one over the root of the mean square plus the small constant. -/
def rmsFactor (x : Fin 1024 → EReal) : EReal :=
  Ideal.rsqrt (Ideal.div (∑ k, x k * x k) (Ideal.ofBits FTy.f32 0x44800000#32) + Ideal.ofBits FTy.f32 0x358637BD#32)

/-- The normalized row with gain `g`, scaled by `1 + sc` and shifted by `sh`. -/
def modRow (x g sc sh : Fin 1024 → EReal) (k : Fin 1024) : EReal :=
  x k * rmsFactor x * g k * (1 + sc k) + sh k

/-- Hidden feature `j` of the SwiGLU: the SiLU of its gate column times its value column. -/
def hiddenUnit (h : Fin 1024 → EReal) (wa wb : Fin 1024 → Fin 2816 → EReal) (j : Fin 2816) : EReal :=
  (∑ k, h k * wa k j) * Ideal.logistic (∑ k, h k * wa k j) * ∑ k, h k * wb k j

/-- A hidden feature from the two columns it reads. -/
theorem hiddenUnit_of (wa wb : Fin 1024 → Fin 2816 → EReal) (h h' : Fin 1024 → EReal) (j : Fin 2816) (a b : Fin 1024 → EReal)
    (hh : h = h') (ha : a = fun k => wa k j) (hb : b = fun k => wb k j) :
    (∑ k, h k * a k) * Ideal.logistic (∑ k, h k * a k) * ∑ k, h k * b k = hiddenUnit h' wa wb j := by
  subst hh ha hb
  rfl

/-- The half-step: the row plus half its gate times the SwiGLU of the modulated row. -/
def halfStep (x g sc sh gt : Fin 1024 → EReal) (wa wb : Fin 1024 → Fin 2816 → EReal) (w₂ : Fin 2816 → Fin 1024 → EReal) (d : Fin 1024) : EReal :=
  x d + Ideal.ofBits FTy.f32 0x3F000000#32 * gt d * ∑ j, hiddenUnit (modRow x g sc sh) wa wb j * w₂ j d

/-- The first half of 5632 columns. -/
def low (j : Fin 2816) : Fin 5632 := ⟨j.val, by omega⟩

/-- The second half of 5632 columns. -/
def high (j : Fin 2816) : Fin 5632 := ⟨2816 + j.val, by omega⟩

/-- The gate columns of a weight whose columns are grouped in 11 chunks, each 256 gate columns and then their 256 value columns. -/
def gateCols (w : Fin 11 → Fin 1024 → Fin 512 → EReal) (k : Fin 1024) (j : Fin 2816) : EReal :=
  w ⟨j.val / 256, by omega⟩ k ⟨j.val % 256, by omega⟩

/-- The value columns of such a weight. -/
def valueCols (w : Fin 11 → Fin 1024 → Fin 512 → EReal) (k : Fin 1024) (j : Fin 2816) : EReal :=
  w ⟨j.val / 256, by omega⟩ k ⟨256 + j.val % 256, by omega⟩

/-- A column at position `c` of chunk `q` is the gate column numbered `256 q + c`. -/
theorem gateCols_of (w : Fin 11 → Fin 1024 → Fin 512 → EReal) (j : Fin 2816) (q : Fin 11) (c : Fin 512) (y : Fin 256)
    (hj : j.val = 256 * q.val + y.val) (hc : c.val = y.val) : (fun k => w q k c) = fun k => gateCols w k j := by
  unfold gateCols
  rw [(Fin.ext (by show j.val / 256 = q.val; omega) : (⟨j.val / 256, by omega⟩ : Fin 11) = q),
    (Fin.ext (by show j.val % 256 = c.val; omega) : (⟨j.val % 256, by omega⟩ : Fin 512) = c)]

/-- A column at position `256 + c` of chunk `q` is the value column numbered `256 q + c`. -/
theorem valueCols_of (w : Fin 11 → Fin 1024 → Fin 512 → EReal) (j : Fin 2816) (q : Fin 11) (c : Fin 512) (y : Fin 256)
    (hj : j.val = 256 * q.val + y.val) (hc : c.val = 256 + y.val) : (fun k => w q k c) = fun k => valueCols w k j := by
  unfold valueCols
  rw [(Fin.ext (by show j.val / 256 = q.val; omega) : (⟨j.val / 256, by omega⟩ : Fin 11) = q),
    (Fin.ext (by show 256 + j.val % 256 = c.val; omega) : (⟨256 + j.val % 256, by omega⟩ : Fin 512) = c)]

/-- A row normalized with gain `g`: the block's last step. -/
def normRow (x g : Fin 1024 → EReal) (d : Fin 1024) : EReal := x d * rmsFactor x * g d

end Cert.Ffn
end
end
-- ==== Proof.Ffn2.lean ====
module
public import proofs.«01_k».proof.Proof.Gen.Kernel2Ideal.Frame
public import proofs.«01_k».proof.Proof.Ffn
public import Idealize.ShloMosaic.Lib.Pipeline.ValueKit
public import Idealize.ShloMosaic.Lib.Pipeline.ReadBack

/-!
The first feed-forward call: what its result array holds after the run.
-/
set_option maxRecDepth 16384
@[expose] public section
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Ffn
variable (m : (ℓ : Loc nD τ sig) → Buf (Elt Ideal) ℓ)

/-- The windows' block indices at every grid point. -/
theorem idx : ∀ t : Fin cfg0.N, win0_0.index t = ![t.val / 8, t.val % 8, 0] ∧ win0_1.index t = ![t.val / 8, 0, 0]
    ∧ win0_2.index t = ![0, 0] ∧ win0_3.index t = ![0, 0, 0] ∧ win0_4.index t = ![0, 0] ∧ win0_5.index t = ![0, 0] ∧ win0_6.index t = ![t.val / 8, t.val % 8, 0] :=
  (by decide +kernel : ∀ t : Fin grid0.N, _)

/-- The modulated rows the body computes. -/
theorem pay5_at (v0 : FVec Ideal S1x512x1024 .f32) (v2 v4 : FVec Ideal S1x1x1024 .f32) (v8 : FVec Ideal S1x1024 .f32) (r : Fin 512) (k : Fin 1024) :
    k0_pay5 (F := Ideal) v0 v2 v4 v8 (ix2 r k)
      = modRow (fun k => v0 (ix3 0 r k)) (fun k => v8 (ix2 0 k)) (fun k => v4 (ix3 0 0 k)) (fun k => v2 (ix3 0 0 k)) k := by
  pointwise [k0_pay5, k0_pay3, modRow, rmsFactor]

/-- The residual step the body stores. -/
theorem pay2_at (v0 : FVec Ideal S1x512x1024 .f32) (v6 : FVec Ideal S1x1x1024 .f32) (v162 : Vec Ideal S512x2816 .bf16) (v163 : FVec Ideal S2816x1024 .bf16) (u : Fin 1) (r : Fin 512) (d : Fin 1024) :
    k0_pay2 (F := Ideal) (k0_pay3 v0) (k0_pay4 v6) v162 v163 (ix3 u r d)
      = v0 (ix3 0 r d) + Ideal.ofBits FTy.f32 0x3F000000#32 * v6 (ix3 0 0 d) * ∑ j, v162 (ix2 r j) * v163 (ix2 j d) := by
  pointwise [k0_pay2, k0_pay3, k0_pay4]

/-- The hidden features of the rows of a block. -/
def actOf (h : FVec Ideal S512x1024 .bf16) (w : FVec Ideal S11x1024x512 .bf16) : Vec Ideal S512x2816 .bf16 :=
  fun i => hiddenUnit (fun k => h (ix2 (i 0) k)) (gateCols fun q k c => w (ix3 q k c)) (valueCols fun q k c => w (ix3 q k c)) (i 1)

/-- One chunk of hidden features, computed from the modulated rows and the chunk of the weight. -/
theorem pay8_at (H : FVec Ideal S512x1024 .bf16) (v : FVec Ideal S1x1024x512 .bf16) (r : Fin 512) (y : Fin 256) :
    k0_pay8 (F := Ideal) H v (ix2 r y)
      = (∑ k, H (ix2 r k) * v (ix3 0 k ⟨y.val, by omega⟩)) * Ideal.logistic (∑ k, H (ix2 r k) * v (ix3 0 k ⟨y.val, by omega⟩))
        * ∑ k, H (ix2 r k) * v (ix3 0 k ⟨256 + y.val, by omega⟩) := by
  pointwise [k0_pay8]

/-- The chunk of features number `q` is the hidden features from `256 q` on. -/
theorem piece_at (H : FVec Ideal S512x1024 .bf16) (w : FVec Ideal S11x1024x512 .bf16) (q o : ℕ) (hq : q < 11) (ho : o = 256 * q)
    (h : ∀ i, (![q, 0, 0] : Fin 3 → ℕ) i + (![1, 1024, 512] : Fin 3 → ℕ) i ≤ S11x1024x512.size i) (h' : ∀ i, (![0, o] : Fin 2 → ℕ) i + (![512, 256] : Fin 2 → ℕ) i ≤ S512x2816.size i)
    (r : Fin 512) (y : Fin 256) :
    k0_pay8 (F := Ideal) H (View.ld (Val := Elt Ideal) (S := S11x1024x512) (e' := .bf16) w (Rect.unit ![q, 0, 0] ![1, 1024, 512] h)) (ix2 r y)
      = actOf H w ((Rect.unit (s := S512x2816) ![0, o] ![512, 256] h').emb (ix2 r y)) := by
  have e : (Rect.unit (s := S512x2816) ![0, o] ![512, 256] h').emb (ix2 r y) = ix2 r (⟨o + y.val, by omega⟩ : Fin 2816) := by idx_ext
  have l : ∀ k c, View.ld (Val := Elt Ideal) (S := S11x1024x512) (e' := .bf16) w (Rect.unit ![q, 0, 0] ![1, 1024, 512] h) (ix3 0 k c) = w (ix3 ⟨q, hq⟩ k c) := by
    intro k c
    refine congrArg w ?_
    idx_ext
  rw [pay8_at, e]
  unfold actOf
  refine hiddenUnit_of _ _ _ _ _ _ _ rfl ?_ ?_
  · funext k
    rw [l]
    exact congrFun (gateCols_of (fun q k c => w (ix3 q k c)) _ ⟨q, hq⟩ _ y (by subst ho; rfl) rfl) k
  · funext k
    rw [l]
    exact congrFun (valueCols_of (fun q k c => w (ix3 q k c)) _ ⟨q, hq⟩ _ y (by subst ho; rfl) rfl) k

set_option maxHeartbeats 1600000 in
/-- What a grid point leaves in its output block: the half-step of each of its 512 rows, over its input blocks. -/
theorem block_at (c : Dev nD) (t : Fin cfg0.N) (x : FVec Ideal S1x512x1024 .f32) (md : FVec Ideal S1x9x1024 .f32) (g : FVec Ideal S1x1024 .f32)
    (w₁ : FVec Ideal S11x1024x512 .bf16) (w₂ : FVec Ideal S2816x1024 .bf16)
    (hx : iblk m c 0 t = x) (hmd : iblk m c 1 t = md) (hg : iblk m c 2 t = g) (hw₁ : iblk m c 3 t = w₁) (hw₂ : iblk m c 4 t = w₂)
    (u : Fin 1) (r : Fin 512) (d : Fin 1024) :
    outsAt0 m c t (ix3 u r d) = halfStep (fun k => x (ix3 0 r k)) (fun k => g (ix2 0 k)) (fun k => md (ix3 0 1 k)) (fun k => md (ix3 0 0 k))
      (fun k => md (ix3 0 2 k)) (gateCols fun q k c => w₁ (ix3 q k c)) (valueCols fun q k c => w₁ (ix3 q k c)) (fun j k => w₂ (ix2 j k)) d := by
  rw [outsAt0]; frame_out
  rw [hx, hmd, hg, hw₁, hw₂]
  refine (pay2_at _ _ _ _ u r d).trans ?_
  rw [View.readCov_eq_canon']
  unfold halfStep
  refine Ideal.add_congr rfl (Ideal.mul_congr (by pointwise) (Finset.sum_congr rfl fun j _ => Ideal.mul_congr ?_ rfl))
  have hG : ∀ H : FVec Ideal S512x1024 .bf16, (∀ k, H (ix2 r k) = modRow (fun k => x (ix3 0 r k)) (fun k => g (ix2 0 k)) (fun k => md (ix3 0 1 k)) (fun k => md (ix3 0 0 k)) k) →
      actOf H w₁ (ix2 r j) = hiddenUnit (modRow (fun k => x (ix3 0 r k)) (fun k => g (ix2 0 k)) (fun k => md (ix3 0 1 k)) (fun k => md (ix3 0 0 k))) (gateCols fun q k c => w₁ (ix3 q k c)) (valueCols fun q k c => w₁ (ix3 q k c)) j := by
    intro H hH
    exact congrArg (fun h => hiddenUnit h _ _ j) (funext hH)
  obtain ⟨H, hH⟩ : ∃ H, H = k0_pay5 (F := Ideal) x (View.ld (Val := Elt Ideal) (S := S1x9x1024) (e' := .f32) md (Rect.unit ![0, 0, 0] ![1, 1, 1024] inb_S1x9x1024_S1x1x1024_0_0_0))
      (View.ld (Val := Elt Ideal) (S := S1x9x1024) (e' := .f32) md (Rect.unit ![0, 1, 0] ![1, 1, 1024] inb_S1x9x1024_S1x1x1024_0_1_0)) g := ⟨_, rfl⟩
  rw [← hG H fun k => (congrFun hH _).trans ((pay5_at _ _ _ _ r k).trans (by pointwise))]
  beta_reduce
  refine (View.canon_apply_of_pieces (actOf H w₁) _ (View.PiecesOf.mem ?_) _ ?_).trans (congrArg (actOf H w₁) ?_)
  · refine ⟨fun y => ?_, fun y => ?_, fun y => ?_, fun y => ?_, fun y => ?_, fun y => ?_, fun y => ?_, fun y => ?_, fun y => ?_, fun y => ?_, fun y => ?_, trivial⟩
    all_goals idx_vars y
    all_goals subst hH
    · exact piece_at _ w₁ 10 2560 (by decide) rfl _ _ y0 y1
    · exact piece_at _ w₁ 9 2304 (by decide) rfl _ _ y0 y1
    · exact piece_at _ w₁ 8 2048 (by decide) rfl _ _ y0 y1
    · exact piece_at _ w₁ 7 1792 (by decide) rfl _ _ y0 y1
    · exact piece_at _ w₁ 6 1536 (by decide) rfl _ _ y0 y1
    · exact piece_at _ w₁ 5 1280 (by decide) rfl _ _ y0 y1
    · exact piece_at _ w₁ 4 1024 (by decide) rfl _ _ y0 y1
    · exact piece_at _ w₁ 3 768 (by decide) rfl _ _ y0 y1
    · exact piece_at _ w₁ 2 512 (by decide) rfl _ _ y0 y1
    · exact piece_at _ w₁ 1 256 (by decide) rfl _ _ y0 y1
    · exact piece_at _ w₁ 0 0 (by decide) rfl _ _ y0 y1
  · exact View.cover_of_tiled_head _ _ _ rfl _
  · idx_ext

/-- The half-step of every token, from the call's argument arrays. -/
def result (x : FVec Ideal S8x4096x1024 .f32) (md : FVec Ideal S8x9x1024 .f32) (g : FVec Ideal S1x1024 .f32)
    (w₁ : FVec Ideal S1x1024x5632 .f32) (w₂ : FVec Ideal S1x2816x1024 .f32) : FVec Ideal S8x4096x1024 .f32 :=
  fun i => halfStep (fun k => x (ix3 (i 0) (i 1) k)) (fun k => g (ix2 0 k)) (fun k => md (ix3 (i 0) 1 k)) (fun k => md (ix3 (i 0) 0 k))
    (fun k => md (ix3 (i 0) 2 k)) (fun k j => w₁ (ix3 0 k (low j))) (fun k j => w₁ (ix3 0 k (high j))) (fun j k => w₂ (ix3 0 j k)) (i 2)

/-- The window of the chunked weight holds the whole array at every grid point. -/
theorem chunk_at (t : Fin cfg0.N) (q : Fin 11) (k : Fin 1024) (c : Fin 512) :
    ((View.whole main_v8).slice (win0_3.rect t)).emb (ix3 q k c) = ix3 q k c := by
  refine funext fun i => Fin.ext ?_
  match i with
  | ⟨0, _⟩ => blk_simp [idx t]
  | ⟨1, _⟩ => blk_simp [idx t]
  | ⟨2, _⟩ => blk_simp [idx t]

/-- The chunked weight as the kernel takes it, read at a chunk, a feature and a column. -/
theorem weight_at (c : Dev nD) (t : Fin cfg0.N) (q : Fin 11) (k : Fin 1024) (n : Fin 512) :
    iblk m c 3 t (ix3 q k n) = if h : n.val < 256 then m ((c : Thread nD τ).loc main_arg3) (ix3 0 k ⟨q.val * 256 + n.val, by omega⟩)
      else m ((c : Thread nD τ).loc main_arg3) (ix3 0 k ⟨2816 + (q.val * 256 + (n.val - 256)), by omega⟩) := by
  blk_simp [iblk, idx t]
  rw [chunk_at]
  entry_read
  pointwise

/-- The gate columns are the first half of the weight's columns. -/
theorem gate_at (c : Dev nD) (t : Fin cfg0.N) (k : Fin 1024) (j : Fin 2816) :
    gateCols (fun q k n => iblk m c 3 t (ix3 q k n)) k j = m ((c : Thread nD τ).loc main_arg3) (ix3 0 k (low j)) := by
  unfold gateCols
  beta_reduce
  rw [weight_at, dif_pos (Nat.mod_lt _ (by decide))]
  exact congrArg (fun n => m ((c : Thread nD τ).loc main_arg3) (ix3 0 k n)) (Fin.ext (Nat.div_add_mod' _ _))

/-- The value columns are the second half of the weight's columns. -/
theorem value_at (c : Dev nD) (t : Fin cfg0.N) (k : Fin 1024) (j : Fin 2816) :
    valueCols (fun q k n => iblk m c 3 t (ix3 q k n)) k j = m ((c : Thread nD τ).loc main_arg3) (ix3 0 k (high j)) := by
  unfold valueCols
  beta_reduce
  rw [weight_at, dif_neg (Nat.not_lt.2 (Nat.le_add_right _ _))]
  refine congrArg (fun n => m ((c : Thread nD τ).loc main_arg3) (ix3 0 k n)) (Fin.ext ?_)
  show 2816 + (j.val / 256 * 256 + (256 + j.val % 256 - 256)) = 2816 + j.val
  omega

set_option maxHeartbeats 1600000 in
/-- The result array after the run is the half-step of every token. -/
theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  idx_vars y
  refine (block_at m c t _ _ _ _ _ rfl rfl rfl rfl rfl y0 y1 y2).trans ?_
  unfold result
  congr 1
  · funext k; blk_ext [iblk, V, idx t]
  · funext k; blk_ext [iblk, V, idx t]
  · funext k; blk_ext [iblk, V, idx t]
  · funext k; blk_ext [iblk, V, idx t]
  · funext k; blk_ext [iblk, V, idx t]
  · funext k j; exact gate_at m c t k j
  · funext k j; exact value_at m c t k j
  · funext j k; blk_simp [iblk, idx t]; entry_read; pointwise; blk_ext [idx t]
  · refine Fin.ext ?_
    blk_simp [idx t]
end Cert.Kernel2Ideal.Ffn
end
end
-- ==== Proof.Ffn3.lean ====
module
public import proofs.«01_k».proof.Proof.Gen.Kernel3Ideal.Frame
public import proofs.«01_k».proof.Proof.Ffn
public import Idealize.ShloMosaic.Lib.Pipeline.ValueKit
public import Idealize.ShloMosaic.Lib.Pipeline.ReadBack

/-!
The second feed-forward call, which also normalizes the block's output: what its result array holds after the run.
-/
set_option maxRecDepth 16384
@[expose] public section
noncomputable section
open Idealize.ShloMosaic Idealize.ShloMosaic.TcCoe Idealize.SL.Sem
open Idealize.ShloMosaic.Pipeline (Dat)
namespace Cert.Kernel3Ideal.Ffn
open Cert.Kernel3Ideal Cert.Kernel3Ideal.Gen Cert.Ffn
variable (m : (ℓ : Loc nD τ sig) → Buf (Elt Ideal) ℓ)

/-- The windows' block indices at every grid point. -/
theorem idx : ∀ t : Fin cfg0.N, win0_0.index t = ![t.val / 8, t.val % 8, 0] ∧ win0_1.index t = ![t.val / 8, 0, 0]
    ∧ win0_2.index t = ![0, 0] ∧ win0_3.index t = ![0, 0, 0] ∧ win0_4.index t = ![0, 0] ∧ win0_5.index t = ![0, 0] ∧ win0_6.index t = ![t.val / 8, t.val % 8, 0] :=
  (by decide +kernel : ∀ t : Fin grid0.N, _)

/-- The modulated rows the body computes. -/
theorem pay4_at (v0 : FVec Ideal S1x512x1024 .f32) (v2 v4 : FVec Ideal S1x1x1024 .f32) (v8 : FVec Ideal S1x1024 .f32) (r : Fin 512) (k : Fin 1024) :
    k0_pay4 (F := Ideal) v0 v2 v4 v8 (ix2 r k)
      = modRow (fun k => v0 (ix3 0 r k)) (fun k => v8 (ix2 0 k)) (fun k => v4 (ix3 0 0 k)) (fun k => v2 (ix3 0 0 k)) k := by
  pointwise [k0_pay4, k0_pay2, modRow, rmsFactor]

/-- The residual step the body stores, normalized with the final gain. -/
theorem pay1_at (v0 : FVec Ideal S1x512x1024 .f32) (v6 : FVec Ideal S1x1x1024 .f32) (v162 : Vec Ideal S512x2816 .bf16) (v163 : FVec Ideal S2816x1024 .bf16)
    (v179 : FVec Ideal S1x1024 .f32) (u : Fin 1) (r : Fin 512) (d : Fin 1024) :
    k0_pay1 (F := Ideal) (k0_pay18 (k0_pay2 v0) (k0_pay3 v6) v162 v163 v179) (ix3 u r d)
      = normRow (fun d => v0 (ix3 0 r d) + Ideal.ofBits FTy.f32 0x3F000000#32 * v6 (ix3 0 0 d) * ∑ j, v162 (ix2 r j) * v163 (ix2 j d)) (fun d => v179 (ix2 0 d)) d := by
  pointwise [k0_pay1, k0_pay18, k0_pay2, k0_pay3, normRow, rmsFactor]

/-- The hidden features of the rows of a block. -/
def actOf (h : FVec Ideal S512x1024 .bf16) (w : FVec Ideal S11x1024x512 .bf16) : Vec Ideal S512x2816 .bf16 :=
  fun i => hiddenUnit (fun k => h (ix2 (i 0) k)) (gateCols fun q k c => w (ix3 q k c)) (valueCols fun q k c => w (ix3 q k c)) (i 1)

/-- One chunk of hidden features, computed from the modulated rows and the chunk of the weight. -/
theorem pay8_at (H : FVec Ideal S512x1024 .bf16) (v : FVec Ideal S1x1024x512 .bf16) (r : Fin 512) (y : Fin 256) :
    k0_pay8 (F := Ideal) H v (ix2 r y)
      = (∑ k, H (ix2 r k) * v (ix3 0 k ⟨y.val, by omega⟩)) * Ideal.logistic (∑ k, H (ix2 r k) * v (ix3 0 k ⟨y.val, by omega⟩))
        * ∑ k, H (ix2 r k) * v (ix3 0 k ⟨256 + y.val, by omega⟩) := by
  pointwise [k0_pay8]

/-- The chunk of features number `q` is the hidden features from `256 q` on. -/
theorem piece_at (H : FVec Ideal S512x1024 .bf16) (w : FVec Ideal S11x1024x512 .bf16) (q o : ℕ) (hq : q < 11) (ho : o = 256 * q)
    (h : ∀ i, (![q, 0, 0] : Fin 3 → ℕ) i + (![1, 1024, 512] : Fin 3 → ℕ) i ≤ S11x1024x512.size i) (h' : ∀ i, (![0, o] : Fin 2 → ℕ) i + (![512, 256] : Fin 2 → ℕ) i ≤ S512x2816.size i)
    (r : Fin 512) (y : Fin 256) :
    k0_pay8 (F := Ideal) H (View.ld (Val := Elt Ideal) (S := S11x1024x512) (e' := .bf16) w (Rect.unit ![q, 0, 0] ![1, 1024, 512] h)) (ix2 r y)
      = actOf H w ((Rect.unit (s := S512x2816) ![0, o] ![512, 256] h').emb (ix2 r y)) := by
  have e : (Rect.unit (s := S512x2816) ![0, o] ![512, 256] h').emb (ix2 r y) = ix2 r (⟨o + y.val, by omega⟩ : Fin 2816) := by idx_ext
  have l : ∀ k c, View.ld (Val := Elt Ideal) (S := S11x1024x512) (e' := .bf16) w (Rect.unit ![q, 0, 0] ![1, 1024, 512] h) (ix3 0 k c) = w (ix3 ⟨q, hq⟩ k c) := by
    intro k c
    refine congrArg w ?_
    idx_ext
  rw [pay8_at, e]
  unfold actOf
  refine hiddenUnit_of _ _ _ _ _ _ _ rfl ?_ ?_
  · funext k
    rw [l]
    exact congrFun (gateCols_of (fun q k c => w (ix3 q k c)) _ ⟨q, hq⟩ _ y (by subst ho; rfl) rfl) k
  · funext k
    rw [l]
    exact congrFun (valueCols_of (fun q k c => w (ix3 q k c)) _ ⟨q, hq⟩ _ y (by subst ho; rfl) rfl) k

set_option maxHeartbeats 1600000 in
/-- What a grid point leaves in its output block: the half-step of each of its 512 rows, over its input blocks. -/
theorem block_at (c : Dev nD) (t : Fin cfg0.N) (x : FVec Ideal S1x512x1024 .f32) (md : FVec Ideal S1x9x1024 .f32) (g : FVec Ideal S1x1024 .f32)
    (w₁ : FVec Ideal S11x1024x512 .bf16) (w₂ : FVec Ideal S2816x1024 .bf16) (gf : FVec Ideal S1x1024 .f32)
    (hx : iblk m c 0 t = x) (hmd : iblk m c 1 t = md) (hg : iblk m c 2 t = g) (hw₁ : iblk m c 3 t = w₁) (hw₂ : iblk m c 4 t = w₂) (hgf : iblk m c 5 t = gf)
    (u : Fin 1) (r : Fin 512) (d : Fin 1024) :
    outsAt0 m c t (ix3 u r d) = normRow (halfStep (fun k => x (ix3 0 r k)) (fun k => g (ix2 0 k)) (fun k => md (ix3 0 7 k)) (fun k => md (ix3 0 6 k))
      (fun k => md (ix3 0 8 k)) (gateCols fun q k c => w₁ (ix3 q k c)) (valueCols fun q k c => w₁ (ix3 q k c)) (fun j k => w₂ (ix2 j k))) (fun k => gf (ix2 0 k)) d := by
  rw [outsAt0]; frame_out
  rw [hx, hmd, hg, hw₁, hw₂, hgf]
  refine (pay1_at _ _ _ _ _ u r d).trans ?_
  refine congrArg (fun v => normRow v (fun k => gf (ix2 0 k)) d) (funext fun d => ?_)
  rw [View.readCov_eq_canon']
  unfold halfStep
  refine Ideal.add_congr rfl (Ideal.mul_congr (by pointwise) (Finset.sum_congr rfl fun j _ => Ideal.mul_congr ?_ rfl))
  have hG : ∀ H : FVec Ideal S512x1024 .bf16, (∀ k, H (ix2 r k) = modRow (fun k => x (ix3 0 r k)) (fun k => g (ix2 0 k)) (fun k => md (ix3 0 7 k)) (fun k => md (ix3 0 6 k)) k) →
      actOf H w₁ (ix2 r j) = hiddenUnit (modRow (fun k => x (ix3 0 r k)) (fun k => g (ix2 0 k)) (fun k => md (ix3 0 7 k)) (fun k => md (ix3 0 6 k))) (gateCols fun q k c => w₁ (ix3 q k c)) (valueCols fun q k c => w₁ (ix3 q k c)) j := by
    intro H hH
    exact congrArg (fun h => hiddenUnit h _ _ j) (funext hH)
  obtain ⟨H, hH⟩ : ∃ H, H = k0_pay4 (F := Ideal) x (View.ld (Val := Elt Ideal) (S := S1x9x1024) (e' := .f32) md (Rect.unit ![0, 6, 0] ![1, 1, 1024] inb_S1x9x1024_S1x1x1024_0_6_0))
      (View.ld (Val := Elt Ideal) (S := S1x9x1024) (e' := .f32) md (Rect.unit ![0, 7, 0] ![1, 1, 1024] inb_S1x9x1024_S1x1x1024_0_7_0)) g := ⟨_, rfl⟩
  rw [← hG H fun k => (congrFun hH _).trans ((pay4_at _ _ _ _ r k).trans (by pointwise))]
  beta_reduce
  refine (View.canon_apply_of_pieces (actOf H w₁) _ (View.PiecesOf.mem ?_) _ ?_).trans (congrArg (actOf H w₁) ?_)
  · refine ⟨fun y => ?_, fun y => ?_, fun y => ?_, fun y => ?_, fun y => ?_, fun y => ?_, fun y => ?_, fun y => ?_, fun y => ?_, fun y => ?_, fun y => ?_, trivial⟩
    all_goals idx_vars y
    all_goals subst hH
    · exact piece_at _ w₁ 10 2560 (by decide) rfl _ _ y0 y1
    · exact piece_at _ w₁ 9 2304 (by decide) rfl _ _ y0 y1
    · exact piece_at _ w₁ 8 2048 (by decide) rfl _ _ y0 y1
    · exact piece_at _ w₁ 7 1792 (by decide) rfl _ _ y0 y1
    · exact piece_at _ w₁ 6 1536 (by decide) rfl _ _ y0 y1
    · exact piece_at _ w₁ 5 1280 (by decide) rfl _ _ y0 y1
    · exact piece_at _ w₁ 4 1024 (by decide) rfl _ _ y0 y1
    · exact piece_at _ w₁ 3 768 (by decide) rfl _ _ y0 y1
    · exact piece_at _ w₁ 2 512 (by decide) rfl _ _ y0 y1
    · exact piece_at _ w₁ 1 256 (by decide) rfl _ _ y0 y1
    · exact piece_at _ w₁ 0 0 (by decide) rfl _ _ y0 y1
  · exact View.cover_of_tiled_head _ _ _ rfl _
  · idx_ext

/-- The half-step of every token, from the call's argument arrays. -/
def result (x : FVec Ideal S8x4096x1024 .f32) (md : FVec Ideal S8x9x1024 .f32) (g : FVec Ideal S1x1024 .f32)
    (w₁ : FVec Ideal S1x1024x5632 .f32) (w₂ : FVec Ideal S1x2816x1024 .f32) (gf : FVec Ideal S1024 .f32) : FVec Ideal S8x4096x1024 .f32 :=
  fun i => normRow (halfStep (fun k => x (ix3 (i 0) (i 1) k)) (fun k => g (ix2 0 k)) (fun k => md (ix3 (i 0) 7 k)) (fun k => md (ix3 (i 0) 6 k))
    (fun k => md (ix3 (i 0) 8 k)) (fun k j => w₁ (ix3 0 k (low j))) (fun k j => w₁ (ix3 0 k (high j))) (fun j k => w₂ (ix3 0 j k))) (fun k => gf (ix1 k)) (i 2)

/-- The window of the chunked weight holds the whole array at every grid point. -/
theorem chunk_at (t : Fin cfg0.N) (q : Fin 11) (k : Fin 1024) (c : Fin 512) :
    ((View.whole main_v8).slice (win0_3.rect t)).emb (ix3 q k c) = ix3 q k c := by
  refine funext fun i => Fin.ext ?_
  match i with
  | ⟨0, _⟩ => blk_simp [idx t]
  | ⟨1, _⟩ => blk_simp [idx t]
  | ⟨2, _⟩ => blk_simp [idx t]

/-- The chunked weight as the kernel takes it, read at a chunk, a feature and a column. -/
theorem weight_at (c : Dev nD) (t : Fin cfg0.N) (q : Fin 11) (k : Fin 1024) (n : Fin 512) :
    iblk m c 3 t (ix3 q k n) = if h : n.val < 256 then m ((c : Thread nD τ).loc main_arg3) (ix3 0 k ⟨q.val * 256 + n.val, by omega⟩)
      else m ((c : Thread nD τ).loc main_arg3) (ix3 0 k ⟨2816 + (q.val * 256 + (n.val - 256)), by omega⟩) := by
  blk_simp [iblk, idx t]
  rw [chunk_at]
  entry_read
  pointwise

/-- The gate columns are the first half of the weight's columns. -/
theorem gate_at (c : Dev nD) (t : Fin cfg0.N) (k : Fin 1024) (j : Fin 2816) :
    gateCols (fun q k n => iblk m c 3 t (ix3 q k n)) k j = m ((c : Thread nD τ).loc main_arg3) (ix3 0 k (low j)) := by
  unfold gateCols
  beta_reduce
  rw [weight_at, dif_pos (Nat.mod_lt _ (by decide))]
  exact congrArg (fun n => m ((c : Thread nD τ).loc main_arg3) (ix3 0 k n)) (Fin.ext (Nat.div_add_mod' _ _))

/-- The value columns are the second half of the weight's columns. -/
theorem value_at (c : Dev nD) (t : Fin cfg0.N) (k : Fin 1024) (j : Fin 2816) :
    valueCols (fun q k n => iblk m c 3 t (ix3 q k n)) k j = m ((c : Thread nD τ).loc main_arg3) (ix3 0 k (high j)) := by
  unfold valueCols
  beta_reduce
  rw [weight_at, dif_neg (Nat.not_lt.2 (Nat.le_add_right _ _))]
  refine congrArg (fun n => m ((c : Thread nD τ).loc main_arg3) (ix3 0 k n)) (Fin.ext ?_)
  show 2816 + (j.val / 256 * 256 + (256 + j.val % 256 - 256)) = 2816 + j.val
  omega

set_option maxHeartbeats 1600000 in
/-- The result array after the run is the half-step of every token. -/
theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  refine (block_at m c t _ _ _ _ _ _ rfl rfl rfl rfl rfl rfl y0 y1 y2).trans ?_
  unfold result
  congr 1
  · congr 1
    · funext k; blk_ext [iblk, V, idx t]
    · funext k; blk_ext [iblk, V, idx t]
    · funext k; blk_ext [iblk, V, idx t]
    · funext k; blk_ext [iblk, V, idx t]
    · funext k; blk_ext [iblk, V, idx t]
    · funext k j; exact gate_at m c t k j
    · funext k j; exact value_at m c t k j
    · funext j k; blk_simp [iblk, idx t]; entry_read; pointwise; blk_ext [idx t]
  · funext k; blk_simp [iblk, idx t]; entry_read; pointwise; blk_ext [idx t]
  · refine Fin.ext ?_
    blk_simp [idx t]
end Cert.Kernel3Ideal.Ffn
end
end
-- ==== Proof.FfnRef.lean ====
module
public import proofs.«01_k».proof.Proof.Gen.Reference2Ideal.Run
public import proofs.«01_k».proof.Proof.Gen.Reference3Ideal.Run
public import proofs.«01_k».proof.Proof.Ffn

/-!
The reference's feed-forward half-step, one stage at a time, each stage read at an index as the row function of `Ffn`.
-/
set_option maxRecDepth 16384

@[expose] public section
noncomputable section
open Idealize.ShloMosaic Idealize.ShloMosaic.TcCoe Idealize.SL.Sem

namespace Cert.Reference2Ideal.Ffn
open Cert.Reference2Ideal Cert.Reference2Ideal.Gen Cert.Ffn

/-- The reference's RMS normalization of every token with gain `g`. -/
def rms (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
            (Host.reduceAdd (mulf x x) (constant S_ .f32 0x00000000#32) reducesTo_S8x4096x1024_S8x4096_d2 h_S_))
          (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The modulated rows: `rms · (1 + sc) + sh`. -/
def modulated (x : FVec Ideal S8x4096x1024 .f32) (g : FVec Ideal S1024 .f32) (sc sh : FVec Ideal S8x1x1024 .f32) : FVec Ideal S8x4096x1024 .f32 :=
  addf (mulf (rms x g) (broadcastInDim S8x4096x1024 ![0, 1, 2] bcast_S8x1x1024_S8x4096x1024_0_1_2
      (addf (broadcastInDim S8x1x1024 ![] bcast_S_S8x1x1024 (constant S_ .f32 0x3F800000#32)) sc)))
    (broadcastInDim S8x4096x1024 ![0, 1, 2] bcast_S8x1x1024_S8x4096x1024_0_1_2 sh)

/-- SiLU of the first half of the columns times the second half. -/
def gated (p : FVec Ideal S8x4096x5632 .f32) : FVec Ideal S8x4096x2816 .f32 :=
  mulf (mulf (extractStridedSlice S8x4096x2816 ![0, 0, 0] p slices_S8x4096x5632_S8x4096x2816_0_0_0)
      (Host.divf (broadcastInDim S8x4096x2816 ![] bcast_S_S8x4096x2816 (constant S_ .f32 0x3F800000#32))
        (addf (broadcastInDim S8x4096x2816 ![] bcast_S_S8x4096x2816 (constant S_ .f32 0x3F800000#32))
          (Host.exp (Host.negf (extractStridedSlice S8x4096x2816 ![0, 0, 0] p slices_S8x4096x5632_S8x4096x2816_0_0_0))))))
    (extractStridedSlice S8x4096x2816 ![0, 0, 2816] p slices_S8x4096x5632_S8x4096x2816_0_0_2816)

/-- The half-step from the hidden features `a`. -/
def stepOf (x : FVec Ideal S8x4096x1024 .f32) (gt : FVec Ideal S8x1x1024 .f32) (a : FVec Ideal S8x4096x2816 .f32) (w₂ : FVec Ideal S2816x1024 .f32) :
    FVec Ideal S8x4096x1024 .f32 :=
  addf x (mulf (broadcastInDim S8x4096x1024 ![0, 1, 2] bcast_S8x1x1024_S8x4096x1024_0_1_2
      (mulf (broadcastInDim S8x1x1024 ![] bcast_S_S8x1x1024 (constant S_ .f32 0x3F000000#32)) gt))
    (Host.dotGeneral dot_S8x4096x2816_S2816x1024_S8x4096x1024_2_0_01_1_n_n none a w₂))

/-- The half-step of the reference from its argument arrays. -/
def step (x : FVec Ideal S8x4096x1024 .f32) (g : FVec Ideal S1024 .f32) (sc sh gt : FVec Ideal S8x1x1024 .f32)
    (w₁ : FVec Ideal S1024x5632 .f32) (w₂ : FVec Ideal S2816x1024 .f32) : FVec Ideal S8x4096x1024 .f32 :=
  stepOf x gt (gated (Host.dotGeneral dot_S8x4096x1024_S1024x5632_S8x4096x5632_2_0_01_1_n_n none (modulated x g sc sh) w₁)) w₂

theorem rms_at (x : FVec Ideal S8x4096x1024 .f32) (g : FVec Ideal S1024 .f32) (b : Fin 8) (s : Fin 4096) (k : Fin 1024) :
    rms x g (ix3 b s k) = normRow (fun k => x (ix3 b s k)) (fun k => g (ix1 k)) k := by
  pointwise [rms, normRow, rmsFactor]

theorem modulated_at (x : FVec Ideal S8x4096x1024 .f32) (g : FVec Ideal S1024 .f32) (sc sh : FVec Ideal S8x1x1024 .f32) (b : Fin 8) (s : Fin 4096) (k : Fin 1024) :
    modulated x g sc sh (ix3 b s k)
      = modRow (fun k => x (ix3 b s k)) (fun k => g (ix1 k)) (fun k => sc (ix3 b 0 k)) (fun k => sh (ix3 b 0 k)) k := by
  pointwise [modulated, modRow, rms_at, normRow]

theorem gated_at (h : FVec Ideal S8x4096x1024 .f32) (w₁ : FVec Ideal S1024x5632 .f32) (b : Fin 8) (s : Fin 4096) (j : Fin 2816) :
    gated (Host.dotGeneral dot_S8x4096x1024_S1024x5632_S8x4096x5632_2_0_01_1_n_n none h w₁) (ix3 b s j)
      = hiddenUnit (fun k => h (ix3 b s k)) (fun k j => w₁ (ix2 k (low j))) (fun k j => w₁ (ix2 k (high j))) j := by
  pointwise [gated, hiddenUnit, low, high]
  rfl

theorem step_at (x : FVec Ideal S8x4096x1024 .f32) (g : FVec Ideal S1024 .f32) (sc sh gt : FVec Ideal S8x1x1024 .f32)
    (w₁ : FVec Ideal S1024x5632 .f32) (w₂ : FVec Ideal S2816x1024 .f32) (b : Fin 8) (s : Fin 4096) (d : Fin 1024) :
    step x g sc sh gt w₁ w₂ (ix3 b s d)
      = halfStep (fun k => x (ix3 b s k)) (fun k => g (ix1 k)) (fun k => sc (ix3 b 0 k)) (fun k => sh (ix3 b 0 k)) (fun k => gt (ix3 b 0 k))
          (fun k j => w₁ (ix2 k (low j))) (fun k j => w₁ (ix2 k (high j))) (fun j k => w₂ (ix2 j k)) d := by
  have e : (fun k => modulated x g sc sh (ix3 b s k)) = modRow (fun k => x (ix3 b s k)) (fun k => g (ix1 k)) (fun k => sc (ix3 b 0 k)) (fun k => sh (ix3 b 0 k)) :=
    funext fun k => modulated_at x g sc sh b s k
  have h : ∀ a : FVec Ideal S8x4096x2816 .f32, stepOf x gt a w₂ (ix3 b s d)
      = x (ix3 b s d) + Ideal.ofBits FTy.f32 0x3F000000#32 * gt (ix3 b 0 d) * ∑ j, a (ix3 b s j) * w₂ (ix2 j d) := by
    intro a; pointwise [stepOf]
  unfold halfStep step
  rw [h, ← e]
  exact Ideal.add_congr rfl (Ideal.mul_congr rfl (Finset.sum_congr rfl fun j _ => Ideal.mul_congr (gated_at _ _ b s j) rfl))

/-- The first call's half-step from the arrays as the program takes them: shift, scale and gate are rows 0, 1 and 2 of the modulation. -/
def result (x : FVec Ideal S8x4096x1024 .f32) (md : FVec Ideal S8x9x1024 .f32) (g : FVec Ideal S1x1024 .f32)
    (w₁ : FVec Ideal S1x1024x5632 .f32) (w₂ : FVec Ideal S1x2816x1024 .f32) : FVec Ideal S8x4096x1024 .f32 :=
  step x (shapeCast _ g shapeCasts_S1x1024_S1024)
    (broadcastInDim S8x1x1024 ![0, 2] bcast_S8x1024_S8x1x1024_0_2 (shapeCast _ (extractStridedSlice S8x1x1024 ![0, 1, 0] md slices_S8x9x1024_S8x1x1024_0_1_0) shapeCasts_S8x1x1024_S8x1024))
    (broadcastInDim S8x1x1024 ![0, 2] bcast_S8x1024_S8x1x1024_0_2 (shapeCast _ (extractStridedSlice S8x1x1024 ![0, 0, 0] md slices_S8x9x1024_S8x1x1024_0_0_0) shapeCasts_S8x1x1024_S8x1024))
    (broadcastInDim S8x1x1024 ![0, 2] bcast_S8x1024_S8x1x1024_0_2 (shapeCast _ (extractStridedSlice S8x1x1024 ![0, 2, 0] md slices_S8x9x1024_S8x1x1024_0_2_0) shapeCasts_S8x1x1024_S8x1024))
    (shapeCast _ w₁ shapeCasts_S1x1024x5632_S1024x5632) (shapeCast _ w₂ shapeCasts_S1x2816x1024_S2816x1024)

/-- That half-step, read at a token and feature. -/
theorem result_at (x : FVec Ideal S8x4096x1024 .f32) (md : FVec Ideal S8x9x1024 .f32) (g : FVec Ideal S1x1024 .f32)
    (w₁ : FVec Ideal S1x1024x5632 .f32) (w₂ : FVec Ideal S1x2816x1024 .f32) (b : Fin 8) (s : Fin 4096) (d : Fin 1024) :
    result x md g w₁ w₂ (ix3 b s d) = halfStep (fun k => x (ix3 b s k)) (fun k => g (ix2 0 k)) (fun k => md (ix3 b 1 k)) (fun k => md (ix3 b 0 k)) (fun k => md (ix3 b 2 k))
      (fun k j => w₁ (ix3 0 k (low j))) (fun k j => w₁ (ix3 0 k (high j))) (fun j k => w₂ (ix3 0 j k)) d := by
  refine (step_at _ _ _ _ _ _ _ b s d).trans ?_
  pointwise

set_option maxHeartbeats 2000000 in
/-- The first reference's result is that half-step. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_out0 Value.res_main_v41 result step stepOf gated modulated rms
  rfl

end Cert.Reference2Ideal.Ffn

namespace Cert.Reference3Ideal.Ffn
open Cert.Reference3Ideal Cert.Reference3Ideal.Gen Cert.Ffn

/-- The second call's result from its argument arrays: shift, scale and gate are rows 6, 7 and 8 of the modulation, and the last step normalizes. -/
def result (x : FVec Ideal S8x4096x1024 .f32) (md : FVec Ideal S8x9x1024 .f32) (g : FVec Ideal S1x1024 .f32)
    (w₁ : FVec Ideal S1x1024x5632 .f32) (w₂ : FVec Ideal S1x2816x1024 .f32) (gf : FVec Ideal S1024 .f32) : FVec Ideal S8x4096x1024 .f32 :=
  Cert.Reference2Ideal.Ffn.rms (Cert.Reference2Ideal.Ffn.step x (shapeCast _ g shapeCasts_S1x1024_S1024)
    (broadcastInDim S8x1x1024 ![0, 2] bcast_S8x1024_S8x1x1024_0_2 (shapeCast _ (extractStridedSlice S8x1x1024 ![0, 7, 0] md slices_S8x9x1024_S8x1x1024_0_7_0) shapeCasts_S8x1x1024_S8x1024))
    (broadcastInDim S8x1x1024 ![0, 2] bcast_S8x1024_S8x1x1024_0_2 (shapeCast _ (extractStridedSlice S8x1x1024 ![0, 6, 0] md slices_S8x9x1024_S8x1x1024_0_6_0) shapeCasts_S8x1x1024_S8x1024))
    (broadcastInDim S8x1x1024 ![0, 2] bcast_S8x1024_S8x1x1024_0_2 (shapeCast _ (extractStridedSlice S8x1x1024 ![0, 8, 0] md slices_S8x9x1024_S8x1x1024_0_8_0) shapeCasts_S8x1x1024_S8x1024))
    (shapeCast _ w₁ shapeCasts_S1x1024x5632_S1024x5632) (shapeCast _ w₂ shapeCasts_S1x2816x1024_S2816x1024)) gf

/-- That result, read at a token and feature. -/
theorem result_at (x : FVec Ideal S8x4096x1024 .f32) (md : FVec Ideal S8x9x1024 .f32) (g : FVec Ideal S1x1024 .f32)
    (w₁ : FVec Ideal S1x1024x5632 .f32) (w₂ : FVec Ideal S1x2816x1024 .f32) (gf : FVec Ideal S1024 .f32) (b : Fin 8) (s : Fin 4096) (d : Fin 1024) :
    result x md g w₁ w₂ gf (ix3 b s d) = normRow (halfStep (fun k => x (ix3 b s k)) (fun k => g (ix2 0 k)) (fun k => md (ix3 b 7 k)) (fun k => md (ix3 b 6 k)) (fun k => md (ix3 b 8 k))
      (fun k j => w₁ (ix3 0 k (low j))) (fun k j => w₁ (ix3 0 k (high j))) (fun j k => w₂ (ix3 0 j k))) (fun k => gf (ix1 k)) d := by
  refine (Cert.Reference2Ideal.Ffn.rms_at _ _ b s d).trans ?_
  refine congrArg (fun v => normRow v (fun k => gf (ix1 k)) d) (funext fun d => ?_)
  refine (Cert.Reference2Ideal.Ffn.step_at _ _ _ _ _ _ _ b s d).trans ?_
  pointwise

set_option maxHeartbeats 2000000 in
/-- The second reference's result is that array. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_out0 Value.res_main_v54 result Cert.Reference2Ideal.Ffn.step Cert.Reference2Ideal.Ffn.stepOf Cert.Reference2Ideal.Ffn.gated
    Cert.Reference2Ideal.Ffn.modulated Cert.Reference2Ideal.Ffn.rms
  rfl

end Cert.Reference3Ideal.Ffn
end
end
-- ==== Proof.MixIn.lean ====
module
public import proofs.«01_k».proof.Proof.Ffn

/-!
The mixer's input projections of one token, as plain functions of its row of features. The kernel's call and
the reference are compared with these functions.
-/
set_option maxRecDepth 16384

@[expose] public section
noncomputable section

namespace Cert.MixIn
open Idealize.ShloMosaic Cert.Ffn

/-- Column `d` of group `n` of the projection weight's eight groups of 1024 columns. -/
def column (n : Fin 8) (d : Fin 1024) : Fin 8192 := ⟨n.val * 1024 + d.val, by omega⟩

/-- The row `h` times column `d` of group `n`. -/
def proj (h : Fin 1024 → EReal) (w : Fin 1024 → Fin 8192 → EReal) (n : Fin 8) (d : Fin 1024) : EReal :=
  ∑ k, h k * w k (column n d)

/-- The first entry of the softmax of two numbers. -/
def lowerBound (a : Fin 2 → EReal) : EReal :=
  Ideal.div (Ideal.exp (a 0 - Finset.fold max (Ideal.ofBits FTy.f32 0xFF800000#32) a Finset.univ))
    (∑ r, Ideal.exp (a r - Finset.fold max (Ideal.ofBits FTy.f32 0xFF800000#32) a Finset.univ))

/-- The query: SiLU times the head's scale. -/
def query (p : Fin 8 → EReal) (_ : EReal) : EReal := p 0 * Ideal.logistic (p 0) * Ideal.ofBits FTy.f32 0x3DB504F3#32

/-- The forget gate: a logistic lifted above its lower bound. -/
def forget (p : Fin 8 → EReal) (l : EReal) : EReal := l + (1 - l) * Ideal.logistic (p 1)

/-- The logarithm of the forget gate. -/
def logForget (p : Fin 8 → EReal) (l : EReal) : EReal := Ideal.log (forget p l)

/-- The key: one minus the forget gate. -/
def key (p : Fin 8 → EReal) (l : EReal) : EReal := 1 - forget p l

/-- The value of the recurrence. -/
def value (p : Fin 8 → EReal) (_ : EReal) : EReal := p 2

/-- The output gate of the recurrence. -/
def outGate (p : Fin 8 → EReal) (_ : EReal) : EReal := p 3 * Ideal.logistic (p 3)

/-- The input of the convolution: a gated linear unit. -/
def convIn (p : Fin 8 → EReal) (_ : EReal) : EReal := p 4 * Ideal.logistic (p 5)

/-- The merge gate of the recurrence's branch. -/
def gateA (p : Fin 8 → EReal) (_ : EReal) : EReal := Ideal.logistic (p 6)

/-- The merge gate of the convolution's branch. -/
def gateB (p : Fin 8 → EReal) (_ : EReal) : EReal := Ideal.logistic (p 7)

/-- A result of the projections at feature `d` of a token, `f` saying which of them: from the token's row, the gain, the scale and shift,
    the weight and the two rows of lower bounds. -/
def out (f : (Fin 8 → EReal) → EReal → EReal) (x g sc sh : Fin 1024 → EReal) (w : Fin 1024 → Fin 8192 → EReal) (a : Fin 2 → Fin 1024 → EReal)
    (d : Fin 1024) : EReal :=
  f (fun n => proj (modRow x g sc sh) w n d) (lowerBound fun r => a r d)

end Cert.MixIn
end
end
-- ==== Proof.MixInKernel.lean ====
module
public import proofs.«01_k».proof.Proof.Gen.Kernel4Ideal.Frame
public import proofs.«01_k».proof.Proof.MixIn
public import Idealize.ShloMosaic.Lib.Pipeline.ValueKit
public import Idealize.ShloMosaic.Lib.Pipeline.ReadBack

/-!
The call of the mixer's input projections: what its eight result arrays hold after the run.
-/
set_option maxRecDepth 16384
@[expose] public section
noncomputable section
open Idealize.ShloMosaic Idealize.ShloMosaic.TcCoe Idealize.SL.Sem
open Idealize.ShloMosaic.Pipeline (Dat)
namespace Cert.Kernel4Ideal.Mix
open Cert.Kernel4Ideal Cert.Kernel4Ideal.Gen Cert.Ffn Cert.MixIn
variable (m : (ℓ : Loc nD τ sig) → Buf (Elt Ideal) ℓ)

/-- The windows' block indices at every grid point. -/
theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![0, 0] ∧ win0_5.index t = ![t.val / 16, t.val % 16, 0]
    ∧ win0_6.index t = ![t.val / 16, t.val % 16, 0] ∧ win0_7.index t = ![t.val / 16, t.val % 16, 0] ∧ win0_8.index t = ![t.val / 16, t.val % 16, 0]
    ∧ win0_9.index t = ![t.val / 16, t.val % 16, 0] ∧ win0_10.index t = ![t.val / 16, t.val % 16, 0] ∧ win0_11.index t = ![t.val / 16, t.val % 16, 0]
    ∧ win0_12.index t = ![t.val / 16, t.val % 16, 0] :=
  (by decide +kernel : ∀ t : Fin grid0.N, _)

/-- The modulated rows the body computes. -/
theorem pay2_at (v2 v0 : FVec Ideal S1x1x1024 .f32) (v4 : FVec Ideal S1x256x1024 .f32) (v6 : FVec Ideal S1x1024 .f32) (r : Fin 256) (k : Fin 1024) :
    k0_pay2 (F := Ideal) v0 v2 v4 v6 (ix2 r k)
      = modRow (fun k => v4 (ix3 0 r k)) (fun k => v6 (ix2 0 k)) (fun k => v2 (ix3 0 0 k)) (fun k => v0 (ix3 0 0 k)) k := by
  pointwise [k0_pay2, modRow, rmsFactor]

/-- The lower bounds the body computes. -/
theorem pay3_at (v : FVec Ideal S2x1024 .f32) (d : Fin 1024) : k0_pay3 (F := Ideal) v (ix2 0 d) = lowerBound fun r => v (ix2 r d) := by
  pointwise [k0_pay3, lowerBound]

variable (x : FVec Ideal S1x256x1024 .f32) (md : FVec Ideal S1x9x1024 .f32) (g : FVec Ideal S1x1024 .f32)
    (w : FVec Ideal S1024x8192 .bf16) (lb : FVec Ideal S2x1024 .f32)

/-- A result of the projections over the blocks of a grid point. -/
def blockOut (f : (Fin 8 → EReal) → EReal → EReal) (r : Fin 256) (d : Fin 1024) : EReal :=
  out f (fun k => x (ix3 0 r k)) (fun k => g (ix2 0 k)) (fun k => md (ix3 0 4 k)) (fun k => md (ix3 0 3 k)) (fun k j => w (ix2 k j)) (fun r d => lb (ix2 r d)) d

theorem rows_at (r : Fin 256) (k : Fin 1024) : k0_pay13 (F := Ideal) x md g w lb (ix2 r k)
    = modRow (fun k => x (ix3 0 r k)) (fun k => g (ix2 0 k)) (fun k => md (ix3 0 4 k)) (fun k => md (ix3 0 3 k)) k := by
  unfold k0_pay13
  refine (pay2_at _ _ _ _ r k).trans ?_
  pointwise

theorem bound_at (d : Fin 1024) : k0_pay14 (F := Ideal) x md g w lb (ix2 0 d) = lowerBound fun r => lb (ix2 r d) := by
  unfold k0_pay14
  refine (pay3_at _ d).trans ?_
  pointwise

/-- Column `d` of the weight's columns from `o = 1024 n` on is column `d` of group `n`. -/
theorem cols_at (n : Fin 8) (o : ℕ) (ho : o = n.val * 1024) (h : ∀ i, (![0, o] : Fin 2 → ℕ) i + (![1024, 1024] : Fin 2 → ℕ) i ≤ S1024x8192.size i) (k d : Fin 1024) :
    View.ld (Val := Elt Ideal) (S := S1024x8192) (e' := .bf16) w (Rect.unit ![0, o] ![1024, 1024] h) (ix2 k d) = w (ix2 k (column n d)) := by
  subst ho
  refine congrArg w ?_
  unfold column
  idx_ext

variable (H : FVec Ideal S256x1024 .bf16) (L : FVec Ideal S1x1024 .f32) (W W' : FVec Ideal S1024x1024 .bf16) (u : Fin 1) (r : Fin 256) (d : Fin 1024)

theorem pay4_at : k0_pay4 (F := Ideal) H W (ix3 u r d) = query (fun _ => ∑ k, H (ix2 r k) * W (ix2 k d)) 0 := by
  pointwise [k0_pay4, query]
theorem pay6_at : k0_pay6 (F := Ideal) H L W (ix3 u r d) = logForget (fun _ => ∑ k, H (ix2 r k) * W (ix2 k d)) (L (ix2 0 d)) := by
  pointwise [k0_pay6, k0_pay5, logForget, forget]
theorem pay7_at : k0_pay7 (F := Ideal) H L W (ix3 u r d) = key (fun _ => ∑ k, H (ix2 r k) * W (ix2 k d)) (L (ix2 0 d)) := by
  pointwise [k0_pay7, k0_pay5, key, forget]
theorem pay8_at : k0_pay8 (F := Ideal) H W (ix3 u r d) = value (fun _ => ∑ k, H (ix2 r k) * W (ix2 k d)) 0 := by
  pointwise [k0_pay8, value]
theorem pay9_at : k0_pay9 (F := Ideal) H W (ix3 u r d) = outGate (fun _ => ∑ k, H (ix2 r k) * W (ix2 k d)) 0 := by
  pointwise [k0_pay9, outGate]
theorem pay10_at : k0_pay10 (F := Ideal) H W W' (ix3 u r d) = (∑ k, H (ix2 r k) * W (ix2 k d)) * Ideal.logistic (∑ k, H (ix2 r k) * W' (ix2 k d)) := by
  pointwise [k0_pay10]
theorem pay11_at : k0_pay11 (F := Ideal) H W (ix3 u r d) = Ideal.logistic (∑ k, H (ix2 r k) * W (ix2 k d)) := by
  pointwise [k0_pay11]
theorem pay12_at : k0_pay1 (F := Ideal) (k0_pay12 H W) (ix3 u r d) = Ideal.logistic (∑ k, H (ix2 r k) * W (ix2 k d)) := by
  pointwise [k0_pay1, k0_pay12]

/-- One product of the rows of a block with a group of columns. -/
theorem proj_at (n : Fin 8) (o : ℕ) (ho : o = n.val * 1024) (h : ∀ i, (![0, o] : Fin 2 → ℕ) i + (![1024, 1024] : Fin 2 → ℕ) i ≤ S1024x8192.size i) :
    (∑ k, k0_pay13 (F := Ideal) x md g w lb (ix2 r k) * View.ld (Val := Elt Ideal) (S := S1024x8192) (e' := .bf16) w (Rect.unit ![0, o] ![1024, 1024] h) (ix2 k d))
      = proj (modRow (fun k => x (ix3 0 r k)) (fun k => g (ix2 0 k)) (fun k => md (ix3 0 4 k)) (fun k => md (ix3 0 3 k))) (fun k j => w (ix2 k j)) n d :=
  Finset.sum_congr rfl fun k _ => Ideal.mul_congr (rows_at x md g w lb r k) (cols_at w n o ho h k d)

/-- A block stored whole is what was stored. -/
theorem stored {e : EltTy} (h : ∀ i, (![0, 0, 0] : Fin 3 → ℕ) i + (![1, 256, 1024] : Fin 3 → ℕ) i ≤ S1x256x1024.size i) (v : Vec Ideal S1x256x1024 e) :
    View.canon (Val := Elt Ideal) [⟨Rect.unit (s := S1x256x1024) ![0, 0, 0] ![1, 256, 1024] h, v⟩] = v :=
  View.canon_cons_unit_zero (by decide) h v []

/-- The query block, from the input blocks. -/
theorem out5_at : out0_5 (F := Ideal) x md g w lb (ix3 u r d) = blockOut x md g w lb query r d := by
  unfold out0_5
  refine (congrFun (stored _ _) _).trans ((pay4_at _ _ u r d).trans ?_)
  refine (congrArg (fun s => query (fun _ => s) 0) (proj_at x md g w lb r d 0 0 rfl _)).trans ?_
  simp only [blockOut, out, query]

/-- The block of logarithms of forget gates, from the input blocks. -/
theorem out6_at : out0_6 (F := Ideal) x md g w lb (ix3 u r d) = blockOut x md g w lb logForget r d := by
  unfold out0_6
  refine (congrFun (stored _ _) _).trans ((pay6_at _ _ _ u r d).trans ?_)
  refine (congrArg₂ (fun s l => logForget (fun _ => s) l) (proj_at x md g w lb r d 1 1024 rfl _) (bound_at x md g w lb d)).trans ?_
  simp only [blockOut, out, logForget, forget]

/-- The key block, from the input blocks. -/
theorem out7_at : out0_7 (F := Ideal) x md g w lb (ix3 u r d) = blockOut x md g w lb key r d := by
  unfold out0_7
  refine (congrFun (stored _ _) _).trans ((pay7_at _ _ _ u r d).trans ?_)
  refine (congrArg₂ (fun s l => key (fun _ => s) l) (proj_at x md g w lb r d 1 1024 rfl _) (bound_at x md g w lb d)).trans ?_
  simp only [blockOut, out, key, forget]

/-- The value block, from the input blocks. -/
theorem out8_at : out0_8 (F := Ideal) x md g w lb (ix3 u r d) = blockOut x md g w lb value r d := by
  unfold out0_8
  refine (congrFun (stored _ _) _).trans ((pay8_at _ _ u r d).trans ?_)
  refine (congrArg (fun s => value (fun _ => s) 0) (proj_at x md g w lb r d 2 2048 rfl _)).trans ?_
  simp only [blockOut, out, value]

/-- The output gate block, from the input blocks. -/
theorem out9_at : out0_9 (F := Ideal) x md g w lb (ix3 u r d) = blockOut x md g w lb outGate r d := by
  unfold out0_9
  refine (congrFun (stored _ _) _).trans ((pay9_at _ _ u r d).trans ?_)
  refine (congrArg (fun s => outGate (fun _ => s) 0) (proj_at x md g w lb r d 3 3072 rfl _)).trans ?_
  simp only [blockOut, out, outGate]

/-- The block of the convolution's input, from the input blocks. -/
theorem out10_at : out0_10 (F := Ideal) x md g w lb (ix3 u r d) = blockOut x md g w lb convIn r d := by
  unfold out0_10
  refine (congrFun (stored _ _) _).trans ((pay10_at _ _ _ u r d).trans ?_)
  refine (congrArg₂ (fun s l => s * Ideal.logistic l) (proj_at x md g w lb r d 4 4096 rfl _) (proj_at x md g w lb r d 5 5120 rfl _)).trans ?_
  simp only [blockOut, out, convIn]

/-- The first merge gate block, from the input blocks. -/
theorem out11_at : out0_11 (F := Ideal) x md g w lb (ix3 u r d) = blockOut x md g w lb gateA r d := by
  unfold out0_11
  refine (congrFun (stored _ _) _).trans ((pay11_at _ _ u r d).trans ?_)
  refine (congrArg Ideal.logistic (proj_at x md g w lb r d 6 6144 rfl _)).trans ?_
  simp only [blockOut, out, gateA]

/-- The second merge gate block, from the input blocks. -/
theorem out12_at : out0_12 (F := Ideal) x md g w lb (ix3 u r d) = blockOut x md g w lb gateB r d := by
  unfold out0_12
  refine (congrFun (stored _ _) _).trans ((pay12_at _ _ u r d).trans ?_)
  refine (congrArg Ideal.logistic (proj_at x md g w lb r d 7 7168 rfl _)).trans ?_
  simp only [blockOut, out, gateB]

/-- A result of the projections of every token, from the call's argument arrays, `f` saying which. -/
def result (f : (Fin 8 → EReal) → EReal → EReal) (x : FVec Ideal S8x4096x1024 .f32) (md : FVec Ideal S8x9x1024 .f32) (g : FVec Ideal S1x1024 .f32)
    (w : FVec Ideal S1x1024x8192 .f32) (lb : FVec Ideal S2x1024 .f32) : S8x4096x1024.Idx → EReal :=
  fun i => out f (fun k => x (ix3 (i 0) (i 1) k)) (fun k => g (ix2 0 k)) (fun k => md (ix3 (i 0) 4 k)) (fun k => md (ix3 (i 0) 3 k))
    (fun k j => w (ix3 0 k j)) (fun r d => lb (ix2 r d)) (i 2)

/-- The window of the weight holds the whole array at every grid point. -/
theorem whole_at (t : Fin cfg0.N) (k : Fin 1024) (j : Fin 8192) : (win0_3.blk t).view.emb (ix2 k j) = ix2 k j := by
  refine funext fun i => Fin.ext ?_
  match i with
  | ⟨0, _⟩ => blk_simp [idx t]
  | ⟨1, _⟩ => blk_simp [idx t]

/-- The weight as the kernel takes it. -/
theorem weight_at (c : Dev nD) (t : Fin cfg0.N) (k : Fin 1024) (j : Fin 8192) :
    iblk m c 3 t (ix2 k j) = m ((c : Thread nD τ).loc main_arg3) (ix3 0 k j) := by
  blk_simp [iblk, idx t]
  rw [whole_at]
  entry_read
  pointwise

/-- The results over the blocks of a grid point are those of the argument arrays at the block's tokens. -/
theorem block_at (f : (Fin 8 → EReal) → EReal → EReal) (c : Dev nD) (t : Fin cfg0.N) (r : Fin 256) (d : Fin 1024) (i : S8x4096x1024.Idx)
    (h0 : (i 0).val = t.val / 16) (h1 : (i 1).val = t.val % 16 * 256 + r.val) (h2 : (i 2).val = d.val) :
    blockOut (iblk m c 0 t) (iblk m c 1 t) (iblk m c 2 t) (iblk m c 3 t) (iblk m c 4 t) f r d
      = result f (m ((c : Thread nD τ).loc main_arg0)) (m ((c : Thread nD τ).loc main_arg1)) (m ((c : Thread nD τ).loc main_arg2))
        (m ((c : Thread nD τ).loc main_arg3)) (m ((c : Thread nD τ).loc main_arg4)) i := by
  unfold blockOut result
  congr 1
  · funext k; blk_ext [iblk, V, idx t]
  · funext k; blk_ext [iblk, V, idx t]
  · funext k; blk_ext [iblk, V, idx t]
  · funext k; blk_ext [iblk, V, idx t]
  · funext k j; exact weight_at m c t k j
  · funext k j; blk_ext [iblk, V, idx t]
  · exact Fin.ext h2.symm

/-- The queries after the run. -/
theorem final5 (c : Dev nD) : (dats m 0 c).arrAt 5 (cfgs 0).N
    = result query (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  refine (out5_at _ _ _ _ _ y0 y1 y2).trans ?_
  refine block_at m query c t y1 y2 _ ?_ ?_ ?_ <;> blk_simp [idx t]

/-- The logarithms of the forget gates after the run. -/
theorem final6 (c : Dev nD) : (dats m 0 c).arrAt 6 (cfgs 0).N
    = result logForget (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  idx_vars y
  refine (out6_at _ _ _ _ _ y0 y1 y2).trans ?_
  refine block_at m logForget c t y1 y2 _ ?_ ?_ ?_ <;> blk_simp [idx t]

/-- The keys after the run. -/
theorem final7 (c : Dev nD) : (dats m 0 c).arrAt 7 (cfgs 0).N
    = result key (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]
  idx_vars y
  refine (out7_at _ _ _ _ _ y0 y1 y2).trans ?_
  refine block_at m key c t y1 y2 _ ?_ ?_ ?_ <;> blk_simp [idx t]

/-- The values after the run. -/
theorem final8 (c : Dev nD) : (dats m 0 c).arrAt 8 (cfgs 0).N
    = result value (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after0_8]
  idx_vars y
  refine (out8_at _ _ _ _ _ y0 y1 y2).trans ?_
  refine block_at m value c t y1 y2 _ ?_ ?_ ?_ <;> blk_simp [idx t]

/-- The output gates after the run. -/
theorem final9 (c : Dev nD) : (dats m 0 c).arrAt 9 (cfgs 0).N
    = result outGate (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t _ y => ?_
  blk_simp
  rw [after0_9]
  idx_vars y
  refine (out9_at _ _ _ _ _ y0 y1 y2).trans ?_
  refine block_at m outGate c t y1 y2 _ ?_ ?_ ?_ <;> blk_simp [idx t]

/-- The convolution's input after the run. -/
theorem final10 (c : Dev nD) : (dats m 0 c).arrAt 10 (cfgs 0).N
    = result convIn (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 10 _ (by decide +kernel) fun t _ y => ?_
  blk_simp
  rw [after0_10]
  idx_vars y
  refine (out10_at _ _ _ _ _ y0 y1 y2).trans ?_
  refine block_at m convIn c t y1 y2 _ ?_ ?_ ?_ <;> blk_simp [idx t]

/-- The first branch's merge gates after the run. -/
theorem final11 (c : Dev nD) : (dats m 0 c).arrAt 11 (cfgs 0).N
    = result gateA (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 11 _ (by decide +kernel) fun t _ y => ?_
  blk_simp
  rw [after0_11]
  idx_vars y
  refine (out11_at _ _ _ _ _ y0 y1 y2).trans ?_
  refine block_at m gateA c t y1 y2 _ ?_ ?_ ?_ <;> blk_simp [idx t]

/-- The second branch's merge gates after the run. -/
theorem final12 (c : Dev nD) : (dats m 0 c).arrAt 12 (cfgs 0).N
    = result gateB (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 12 _ (by decide +kernel) fun t _ y => ?_
  blk_simp
  rw [after0_12]
  idx_vars y
  refine (out12_at _ _ _ _ _ y0 y1 y2).trans ?_
  refine block_at m gateB c t y1 y2 _ ?_ ?_ ?_ <;> blk_simp [idx t]
end Cert.Kernel4Ideal.Mix
end
end
-- ==== Proof.MixInRef.lean ====
module
public import proofs.«01_k».proof.Proof.Gen.Reference4Ideal.Run
public import proofs.«01_k».proof.Proof.FfnRef
public import proofs.«01_k».proof.Proof.MixIn

/-!
The reference of the mixer's input projections, one stage at a time, each stage read at an index.
-/
set_option maxRecDepth 16384

@[expose] public section
noncomputable section
open Idealize.ShloMosaic Idealize.ShloMosaic.TcCoe Idealize.SL.Sem

namespace Cert.Reference4Ideal.Mix
open Cert.Reference4Ideal Cert.Reference4Ideal.Gen Cert.Ffn Cert.MixIn

/-- Each column of the two rows, shifted by its largest entry, exponentiated. -/
def expo (v : FVec Ideal S2x1024 .f32) : FVec Ideal S2x1024 .f32 :=
  Host.exp (subf v (broadcastInDim S2x1024 ![0, 1] bcast_S1x1024_S2x1024_0_1 (broadcastInDim S1x1024 ![1] bcast_S1024_S1x1024_1
    (maximumf (broadcastInDim S1024 ![] bcast_S_S1024 (constant S_ .f32 0xFF800000#32)) (Host.reduce FloatOps.maximumf v (constant S_ .f32 0xFF800000#32) reducesTo_S2x1024_S1024_d0 h_S_)))))

/-- The softmax over the two rows. -/
def soft (v : FVec Ideal S2x1024 .f32) : FVec Ideal S2x1024 .f32 :=
  Host.divf (expo v) (broadcastInDim S2x1024 ![0, 1] bcast_S1x1024_S2x1024_0_1 (broadcastInDim S1x1024 ![1] bcast_S1024_S1x1024_1
    (Host.reduceAdd (expo v) (constant S_ .f32 0x00000000#32) reducesTo_S2x1024_S1024_d0 h_S_)))

/-- The running sum of two rows. -/
def running (v : FVec Ideal S2x1024 .f32) : FVec Ideal S2x1024 .f32 :=
  Host.reduceWindowAdd ![2, 1] ![1, 1] ![1, 0] ![0, 0] v (broadcastInDim S_ ![] bcast_S_S_ (constant S_ .f32 0x00000000#32)) reduceWindows_S2x1024_S2x1024_w2s1p1_0_w1s1p0_0 h_S_

/-- The lower bounds: the first row of the running sum of the softmax. -/
def bound (v : FVec Ideal S2x1024 .f32) : FVec Ideal S1024 .f32 :=
  shapeCast _ (extractStridedSlice S1x1024 ![0, 0] (running (soft v)) slices_S2x1024_S1x1024_0_0) shapeCasts_S1x1024_S1024

/-- All eight groups of projections of the modulated rows. -/
def projs (x : FVec Ideal S8x4096x1024 .f32) (md : FVec Ideal S8x9x1024 .f32) (g : FVec Ideal S1x1024 .f32) (w : FVec Ideal S1x1024x8192 .f32) : FVec Ideal S8x4096x8192 .f32 :=
  Host.dotGeneral dot_S8x4096x1024_S1024x8192_S8x4096x8192_2_0_01_1_n_n none (Cert.Reference2Ideal.Ffn.modulated x (shapeCast _ g shapeCasts_S1x1024_S1024)
    (broadcastInDim S8x1x1024 ![0, 2] bcast_S8x1024_S8x1x1024_0_2 (shapeCast _ (extractStridedSlice S8x1x1024 ![0, 4, 0] md slices_S8x9x1024_S8x1x1024_0_4_0) shapeCasts_S8x1x1024_S8x1024))
    (broadcastInDim S8x1x1024 ![0, 2] bcast_S8x1024_S8x1x1024_0_2 (shapeCast _ (extractStridedSlice S8x1x1024 ![0, 3, 0] md slices_S8x9x1024_S8x1x1024_0_3_0) shapeCasts_S8x1x1024_S8x1024)))
    (shapeCast _ w shapeCasts_S1x1024x8192_S1024x8192)

/-- The logistic function as the reference writes it. -/
def logi (p : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf p)))

/-- The forget gates from their lower bounds and their group of projections. -/
def gate (l : FVec Ideal S1024 .f32) (p : FVec Ideal S8x4096x1024 .f32) : FVec Ideal S8x4096x1024 .f32 :=
  addf (broadcastInDim S8x4096x1024 ![0, 1, 2] bcast_S1x1x1024_S8x4096x1024_0_1_2 (broadcastInDim S1x1x1024 ![2] bcast_S1024_S1x1x1024_2 l))
    (mulf (broadcastInDim S8x4096x1024 ![0, 1, 2] bcast_S1x1x1024_S8x4096x1024_0_1_2 (broadcastInDim S1x1x1024 ![2] bcast_S1024_S1x1x1024_2
      (subf (broadcastInDim S1024 ![] bcast_S_S1024 (constant S_ .f32 0x3F800000#32)) l))) (logi p))

theorem window_at (v : FVec Ideal S2x1024 .f32) (d : Fin 1024) : running v (ix2 0 d) = v (ix2 0 d) := by
  unfold running
  show Host.reduceWindow (· + ·) ![2, 1] ![1, 1] ![1, 0] ![0, 0] v _ reduceWindows_S2x1024_S2x1024_w2s1p1_0_w1s1p0_0 _ (ix2 0 d) = _
  unfold Host.reduceWindow
  have hl : List.finRange (⟨2, ![2, 1]⟩ : Shape).numel = [⟨0, by decide⟩, ⟨1, by decide⟩] := by decide
  have hr : ∀ n : Fin (⟨2, ![2, 1]⟩ : Shape).numel, ((⟨2, ![2, 1]⟩ : Shape).rowMajor.symm n 0).val = n.val ∧ ((⟨2, ![2, 1]⟩ : Shape).rowMajor.symm n 1).val = 0 := by decide
  have hz : broadcastInDim S_ ![] bcast_S_S_ (constant (F := Ideal) S_ .f32 0x00000000#32) (Shape.Idx.first h_S_) = 0 := by
    show Ideal.ofBits FTy.f32 0#32 = 0
    pointwise
  dsimp only
  rw [hl, List.foldl_cons, List.foldl_cons, List.foldl_nil, hz, dif_neg, dif_pos, zero_add, zero_add]
  · refine congrArg v (funext fun a => Fin.ext ?_)
    match a with
    | ⟨0, _⟩ =>
      show 0 * 1 + ((⟨2, ![2, 1]⟩ : Shape).rowMajor.symm ⟨1, by decide⟩ 0).val - 1 = 0
      rw [(hr _).1]
      rfl
    | ⟨1, _⟩ =>
      show d.val * 1 + ((⟨2, ![2, 1]⟩ : Shape).rowMajor.symm ⟨1, by decide⟩ 1).val - 0 = d.val
      rw [(hr _).2]
      omega
  · intro a
    match a with
    | ⟨0, _⟩ =>
      show 1 ≤ 0 * 1 + ((⟨2, ![2, 1]⟩ : Shape).rowMajor.symm ⟨1, by decide⟩ 0).val ∧ 0 * 1 + ((⟨2, ![2, 1]⟩ : Shape).rowMajor.symm ⟨1, by decide⟩ 0).val - 1 < 2
      rw [(hr _).1]
      decide
    | ⟨1, _⟩ =>
      show 0 ≤ d.val * 1 + ((⟨2, ![2, 1]⟩ : Shape).rowMajor.symm ⟨1, by decide⟩ 1).val ∧ d.val * 1 + ((⟨2, ![2, 1]⟩ : Shape).rowMajor.symm ⟨1, by decide⟩ 1).val - 0 < 1024
      rw [(hr _).2]
      omega
  · intro h
    have h0 : 1 ≤ 0 * 1 + ((⟨2, ![2, 1]⟩ : Shape).rowMajor.symm ⟨0, by decide⟩ 0).val := (h 0).1
    rw [(hr _).1] at h0
    exact absurd h0 (by decide)

theorem expo_at (v : FVec Ideal S2x1024 .f32) (r : Fin 2) (d : Fin 1024) : expo v (ix2 r d)
    = Ideal.exp (v (ix2 r d) - Finset.fold max (Ideal.ofBits FTy.f32 0xFF800000#32) (fun r => v (ix2 r d)) Finset.univ) := by
  pointwise [expo]
  rw [max_eq_right ((Finset.le_fold_max _).2 (Or.inl le_rfl))]

theorem bound_at (v : FVec Ideal S2x1024 .f32) (d : Fin 1024) : bound v (ix1 d) = lowerBound fun r => v (ix2 r d) := by
  have h : ∀ v : FVec Ideal S2x1024 .f32, shapeCast S1024 (extractStridedSlice S1x1024 ![0, 0] v slices_S2x1024_S1x1024_0_0) shapeCasts_S1x1024_S1024 (ix1 d) = v (ix2 0 d) := by
    intro v; pointwise
  have hs : soft v (ix2 0 d) = Ideal.div (expo v (ix2 0 d)) (∑ r, expo v (ix2 r d)) := by
    pointwise [soft]
  unfold bound
  rw [h, window_at, hs]
  simp only [expo_at, lowerBound]

theorem logi_at (p : FVec Ideal S8x4096x1024 .f32) (b : Fin 8) (s : Fin 4096) (d : Fin 1024) : logi p (ix3 b s d) = Ideal.logistic (p (ix3 b s d)) := by
  pointwise [logi]
  rfl

theorem gate_at (l : FVec Ideal S1024 .f32) (p : FVec Ideal S8x4096x1024 .f32) (b : Fin 8) (s : Fin 4096) (d : Fin 1024) :
    gate l p (ix3 b s d) = l (ix1 d) + (1 - l (ix1 d)) * logi p (ix3 b s d) := by
  pointwise [gate]

theorem projs_at (x : FVec Ideal S8x4096x1024 .f32) (md : FVec Ideal S8x9x1024 .f32) (g : FVec Ideal S1x1024 .f32) (w : FVec Ideal S1x1024x8192 .f32)
    (b : Fin 8) (s : Fin 4096) (n : Fin 8) (d : Fin 1024) :
    projs x md g w (ix3 b s (column n d))
      = proj (modRow (fun k => x (ix3 b s k)) (fun k => g (ix2 0 k)) (fun k => md (ix3 b 4 k)) (fun k => md (ix3 b 3 k))) (fun k j => w (ix3 0 k j)) n d := by
  have h : ∀ a : FVec Ideal S8x4096x1024 .f32, Host.dotGeneral dot_S8x4096x1024_S1024x8192_S8x4096x8192_2_0_01_1_n_n none a (shapeCast _ w shapeCasts_S1x1024x8192_S1024x8192) (ix3 b s (column n d))
      = ∑ k, a (ix3 b s k) * w (ix3 0 k (column n d)) := by
    intro a; pointwise
  unfold projs proj
  rw [h]
  refine Finset.sum_congr rfl fun k _ => Ideal.mul_congr ?_ rfl
  refine (Cert.Reference2Ideal.Ffn.modulated_at _ _ _ _ b s k).trans ?_
  pointwise

/-- The queries, from the groups of projections. -/
def queries (P : FVec Ideal S8x4096x8192 .f32) : FVec Ideal S8x4096x1024 .f32 :=
  mulf (mulf (extractStridedSlice S8x4096x1024 ![0, 0, 0] P slices_S8x4096x8192_S8x4096x1024_0_0_0) (logi (extractStridedSlice S8x4096x1024 ![0, 0, 0] P slices_S8x4096x8192_S8x4096x1024_0_0_0))) (broadcastInDim S8x4096x1024 ![] bcast_S_S8x4096x1024 (constant S_ .f32 0x3DB504F3#32))

theorem queries_at (P : FVec Ideal S8x4096x8192 .f32) (b : Fin 8) (s : Fin 4096) (d : Fin 1024) :
    queries P (ix3 b s d) = query (fun n => P (ix3 b s (column n d))) 0 := by
  pointwise [queries, logi_at, query, column]

/-- The queries of the reference at a token and feature. -/
theorem query_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    queries (projs x md g w) (ix3 b s d) = out query (fun k => x (ix3 b s k)) (fun k => g (ix2 0 k)) (fun k => md (ix3 b 4 k)) (fun k => md (ix3 b 3 k))
      (fun k j => w (ix3 0 k j)) (fun r d => a (ix2 r d)) d :=
  (queries_at _ b s d).trans (congrArg (fun p => query p _) (funext fun n => projs_at x md g w b s n d))

/-- The logarithms of the forget gates, from the groups of projections. -/
def logGates (l : FVec Ideal S1024 .f32) (P : FVec Ideal S8x4096x8192 .f32) : FVec Ideal S8x4096x1024 .f32 :=
  Host.log (gate l (extractStridedSlice S8x4096x1024 ![0, 0, 1024] P slices_S8x4096x8192_S8x4096x1024_0_0_1024))

theorem logGates_at (l : FVec Ideal S1024 .f32) (P : FVec Ideal S8x4096x8192 .f32) (b : Fin 8) (s : Fin 4096) (d : Fin 1024) :
    logGates l P (ix3 b s d) = logForget (fun n => P (ix3 b s (column n d))) (l (ix1 d)) := by
  pointwise [logGates, gate_at, logi_at, logForget, forget, column]

/-- The logarithms of the forget gates of the reference at a token and feature. -/
theorem logForget_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    logGates (bound a) (projs x md g w) (ix3 b s d) = out logForget (fun k => x (ix3 b s k)) (fun k => g (ix2 0 k)) (fun k => md (ix3 b 4 k)) (fun k => md (ix3 b 3 k))
      (fun k j => w (ix3 0 k j)) (fun r d => a (ix2 r d)) d :=
  (logGates_at (bound a) _ b s d).trans (congrArg₂ logForget (funext fun n => projs_at x md g w b s n d) (bound_at a d))

/-- The keys, from the groups of projections. -/
def keys (l : FVec Ideal S1024 .f32) (P : FVec Ideal S8x4096x8192 .f32) : FVec Ideal S8x4096x1024 .f32 :=
  subf (broadcastInDim S8x4096x1024 ![] bcast_S_S8x4096x1024 (constant S_ .f32 0x3F800000#32)) (gate l (extractStridedSlice S8x4096x1024 ![0, 0, 1024] P slices_S8x4096x8192_S8x4096x1024_0_0_1024))

theorem keys_at (l : FVec Ideal S1024 .f32) (P : FVec Ideal S8x4096x8192 .f32) (b : Fin 8) (s : Fin 4096) (d : Fin 1024) :
    keys l P (ix3 b s d) = key (fun n => P (ix3 b s (column n d))) (l (ix1 d)) := by
  pointwise [keys, gate_at, logi_at, key, forget, column]

/-- The keys of the reference at a token and feature. -/
theorem key_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    keys (bound a) (projs x md g w) (ix3 b s d) = out key (fun k => x (ix3 b s k)) (fun k => g (ix2 0 k)) (fun k => md (ix3 b 4 k)) (fun k => md (ix3 b 3 k))
      (fun k j => w (ix3 0 k j)) (fun r d => a (ix2 r d)) d :=
  (keys_at (bound a) _ b s d).trans (congrArg₂ key (funext fun n => projs_at x md g w b s n d) (bound_at a d))

/-- The values, from the groups of projections. -/
def values (P : FVec Ideal S8x4096x8192 .f32) : FVec Ideal S8x4096x1024 .bf16 :=
  truncf .bf16 (extractStridedSlice S8x4096x1024 ![0, 0, 2048] P slices_S8x4096x8192_S8x4096x1024_0_0_2048) bitsLt_bf16_f32

theorem values_at (P : FVec Ideal S8x4096x8192 .f32) (b : Fin 8) (s : Fin 4096) (d : Fin 1024) :
    values P (ix3 b s d) = value (fun n => P (ix3 b s (column n d))) 0 := by
  pointwise [values, logi_at, value, column]

/-- The values of the reference at a token and feature. -/
theorem value_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    values (projs x md g w) (ix3 b s d) = out value (fun k => x (ix3 b s k)) (fun k => g (ix2 0 k)) (fun k => md (ix3 b 4 k)) (fun k => md (ix3 b 3 k))
      (fun k j => w (ix3 0 k j)) (fun r d => a (ix2 r d)) d :=
  (values_at _ b s d).trans (congrArg (fun p => value p _) (funext fun n => projs_at x md g w b s n d))

/-- The output gates, from the groups of projections. -/
def outGates (P : FVec Ideal S8x4096x8192 .f32) : FVec Ideal S8x4096x1024 .bf16 :=
  truncf .bf16 (mulf (extractStridedSlice S8x4096x1024 ![0, 0, 3072] P slices_S8x4096x8192_S8x4096x1024_0_0_3072) (logi (extractStridedSlice S8x4096x1024 ![0, 0, 3072] P slices_S8x4096x8192_S8x4096x1024_0_0_3072))) bitsLt_bf16_f32

theorem outGates_at (P : FVec Ideal S8x4096x8192 .f32) (b : Fin 8) (s : Fin 4096) (d : Fin 1024) :
    outGates P (ix3 b s d) = outGate (fun n => P (ix3 b s (column n d))) 0 := by
  pointwise [outGates, logi_at, outGate, column]

/-- The output gates of the reference at a token and feature. -/
theorem outGate_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    outGates (projs x md g w) (ix3 b s d) = out outGate (fun k => x (ix3 b s k)) (fun k => g (ix2 0 k)) (fun k => md (ix3 b 4 k)) (fun k => md (ix3 b 3 k))
      (fun k j => w (ix3 0 k j)) (fun r d => a (ix2 r d)) d :=
  (outGates_at _ b s d).trans (congrArg (fun p => outGate p _) (funext fun n => projs_at x md g w b s n d))

/-- The convolution's input, from the groups of projections. -/
def convIns (P : FVec Ideal S8x4096x8192 .f32) : FVec Ideal S8x4096x1024 .f32 :=
  mulf (extractStridedSlice S8x4096x1024 ![0, 0, 4096] P slices_S8x4096x8192_S8x4096x1024_0_0_4096) (logi (extractStridedSlice S8x4096x1024 ![0, 0, 5120] P slices_S8x4096x8192_S8x4096x1024_0_0_5120))

theorem convIns_at (P : FVec Ideal S8x4096x8192 .f32) (b : Fin 8) (s : Fin 4096) (d : Fin 1024) :
    convIns P (ix3 b s d) = convIn (fun n => P (ix3 b s (column n d))) 0 := by
  pointwise [convIns, logi_at, convIn, column]

/-- The convolution's input of the reference at a token and feature. -/
theorem convIn_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    convIns (projs x md g w) (ix3 b s d) = out convIn (fun k => x (ix3 b s k)) (fun k => g (ix2 0 k)) (fun k => md (ix3 b 4 k)) (fun k => md (ix3 b 3 k))
      (fun k j => w (ix3 0 k j)) (fun r d => a (ix2 r d)) d :=
  (convIns_at _ b s d).trans (congrArg (fun p => convIn p _) (funext fun n => projs_at x md g w b s n d))

/-- The first branch's merge gates, from the groups of projections. -/
def gatesA (P : FVec Ideal S8x4096x8192 .f32) : FVec Ideal S8x4096x1024 .bf16 :=
  truncf .bf16 (logi (extractStridedSlice S8x4096x1024 ![0, 0, 6144] P slices_S8x4096x8192_S8x4096x1024_0_0_6144)) bitsLt_bf16_f32

theorem gatesA_at (P : FVec Ideal S8x4096x8192 .f32) (b : Fin 8) (s : Fin 4096) (d : Fin 1024) :
    gatesA P (ix3 b s d) = gateA (fun n => P (ix3 b s (column n d))) 0 := by
  pointwise [gatesA, logi_at, gateA, column]

/-- The first branch's merge gates of the reference at a token and feature. -/
theorem gateA_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    gatesA (projs x md g w) (ix3 b s d) = out gateA (fun k => x (ix3 b s k)) (fun k => g (ix2 0 k)) (fun k => md (ix3 b 4 k)) (fun k => md (ix3 b 3 k))
      (fun k j => w (ix3 0 k j)) (fun r d => a (ix2 r d)) d :=
  (gatesA_at _ b s d).trans (congrArg (fun p => gateA p _) (funext fun n => projs_at x md g w b s n d))

/-- The second branch's merge gates, from the groups of projections. -/
def gatesB (P : FVec Ideal S8x4096x8192 .f32) : FVec Ideal S8x4096x1024 .bf16 :=
  truncf .bf16 (logi (extractStridedSlice S8x4096x1024 ![0, 0, 7168] P slices_S8x4096x8192_S8x4096x1024_0_0_7168)) bitsLt_bf16_f32

theorem gatesB_at (P : FVec Ideal S8x4096x8192 .f32) (b : Fin 8) (s : Fin 4096) (d : Fin 1024) :
    gatesB P (ix3 b s d) = gateB (fun n => P (ix3 b s (column n d))) 0 := by
  pointwise [gatesB, logi_at, gateB, column]

/-- The second branch's merge gates of the reference at a token and feature. -/
theorem gateB_result (x : FVec Ideal S8x4096x1024 .f32) (md : FVec Ideal S8x9x1024 .f32) (g : FVec Ideal S1x1024 .f32) (w : FVec Ideal S1x1024x8192 .f32) (a : FVec Ideal S2x1024 .f32) (b : Fin 8) (s : Fin 4096) (d : Fin 1024) :
    gatesB (projs x md g w) (ix3 b s d) = out gateB (fun k => x (ix3 b s k)) (fun k => g (ix2 0 k)) (fun k => md (ix3 b 4 k)) (fun k => md (ix3 b 3 k))
      (fun k j => w (ix3 0 k j)) (fun r d => a (ix2 r d)) d :=
  (gatesB_at _ b s d).trans (congrArg (fun p => gateB p _) (funext fun n => projs_at x md g w b s n d))

set_option maxHeartbeats 4000000 in
/-- The reference's run: its eight results by the stages above, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = queries (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v67) = logGates (bound (m ((c.tc : Thread nD τ).loc main_arg4))) (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v69) = keys (bound (m ((c.tc : Thread nD τ).loc main_arg4))) (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v70) = values (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v72) = outGates (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v79) = convIns (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v86) = gatesA (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v93) = gatesB (projs (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · unfold queries logi projs Cert.Reference2Ideal.Ffn.modulated Cert.Reference2Ideal.Ffn.rms; rfl
  · unfold Value.res_main_v67 logGates gate logi bound running soft expo projs Cert.Reference2Ideal.Ffn.modulated Cert.Reference2Ideal.Ffn.rms; rfl
  · unfold Value.res_main_v69 keys gate logi bound running soft expo projs Cert.Reference2Ideal.Ffn.modulated Cert.Reference2Ideal.Ffn.rms; rfl
  · unfold values projs Cert.Reference2Ideal.Ffn.modulated Cert.Reference2Ideal.Ffn.rms; rfl
  · unfold outGates logi projs Cert.Reference2Ideal.Ffn.modulated Cert.Reference2Ideal.Ffn.rms; rfl
  · unfold convIns logi projs Cert.Reference2Ideal.Ffn.modulated Cert.Reference2Ideal.Ffn.rms; rfl
  · unfold gatesA logi projs Cert.Reference2Ideal.Ffn.modulated Cert.Reference2Ideal.Ffn.rms; rfl
  · unfold gatesB logi projs Cert.Reference2Ideal.Ffn.modulated Cert.Reference2Ideal.Ffn.rms; rfl

end Cert.Reference4Ideal.Mix
end
end
-- ==== Proof.MixInClaim.lean ====
module
public import proofs.«01_k».proof.Defs
public import proofs.«01_k».proof.Proof.MixInKernel
public import proofs.«01_k».proof.Proof.MixInRef
public import Idealize.ShloMosaic.Lib.Claim
public import Idealize.ShloMosaic.Adequacy
public import Idealize.ShloMosaic.Init

/-!
The mixer's input projections: the call and its reference leave the same eight results.
-/
@[expose] public section

noncomputable section

namespace Cert.Proof

open Idealize.ShloMosaic Idealize.SL.Sem Cert.Kernel4

/-- One of the eight results from the arguments of the kernel's program. -/
def mixed (f : (Fin 8 → EReal) → EReal → EReal) (m : (ℓ : Loc Cert.Kernel4Ideal.nD Cert.Kernel4Ideal.τ Cert.Kernel4Ideal.sig) → Buf (Elt Ideal) ℓ) (c : Dev Cert.Kernel4Ideal.nD) :
    Cert.Kernel4Ideal.S8x4096x1024.Idx → EReal :=
  Cert.Kernel4Ideal.Mix.result f (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))

set_option maxHeartbeats 4000000 in
/-- The call of the input projections computes the reference's eight results at every token. -/
theorem mix_in : Cert.algebraic_Kernel4Ideal_Reference4Ideal := by
  intro m g m' g' _ hagree
  refine ⟨mixed Cert.MixIn.query m, mixed Cert.MixIn.logForget m, mixed Cert.MixIn.key m, mixed Cert.MixIn.value m, mixed Cert.MixIn.outGate m, mixed Cert.MixIn.convIn m, mixed Cert.MixIn.gateA m, mixed Cert.MixIn.gateB m, ?_, ?_⟩
  · run_from Cert.Kernel4Ideal.Gen.run_main m g
    · exact Cert.Kernel4Ideal.Mix.final5 m c
    · exact Cert.Kernel4Ideal.Mix.final6 m c
    · exact Cert.Kernel4Ideal.Mix.final7 m c
    · exact Cert.Kernel4Ideal.Mix.final8 m c
    · exact Cert.Kernel4Ideal.Mix.final9 m c
    · exact Cert.Kernel4Ideal.Mix.final10 m c
    · exact Cert.Kernel4Ideal.Mix.final11 m c
    · exact Cert.Kernel4Ideal.Mix.final12 m c
  · refine (θ_run Cert.Reference4Ideal.defs _ _).mono (fun r h c => ?_) (Cert.Reference4Ideal.Mix.run m' g')
    obtain ⟨r0, r1, r2, r3, r4, r5, r6, r7, hargs⟩ := h c
    obtain ⟨h0, h1, h2, h3, h4⟩ := hagree c
    rw [h0, h1, h2, h3] at r0 r3 r4 r5 r6 r7
    rw [h0, h1, h2, h3, h4] at r1 r2
    refine ⟨r0.trans ?_, r1.trans ?_, r2.trans ?_, r3.trans ?_, r4.trans ?_, r5.trans ?_, r6.trans ?_, r7.trans ?_, hargs⟩ <;> funext i <;> idx_vars i
    · exact Cert.Reference4Ideal.Mix.query_result _ _ _ _ (m ((c.tc : Thread Cert.Kernel4Ideal.nD Cert.Kernel4Ideal.τ).loc Cert.Kernel4Ideal.main_arg4)) _ _ _
    · exact Cert.Reference4Ideal.Mix.logForget_result _ _ _ _ _ _ _ _
    · exact Cert.Reference4Ideal.Mix.key_result _ _ _ _ _ _ _ _
    · exact Cert.Reference4Ideal.Mix.value_result _ _ _ _ (m ((c.tc : Thread Cert.Kernel4Ideal.nD Cert.Kernel4Ideal.τ).loc Cert.Kernel4Ideal.main_arg4)) _ _ _
    · exact Cert.Reference4Ideal.Mix.outGate_result _ _ _ _ (m ((c.tc : Thread Cert.Kernel4Ideal.nD Cert.Kernel4Ideal.τ).loc Cert.Kernel4Ideal.main_arg4)) _ _ _
    · exact Cert.Reference4Ideal.Mix.convIn_result _ _ _ _ (m ((c.tc : Thread Cert.Kernel4Ideal.nD Cert.Kernel4Ideal.τ).loc Cert.Kernel4Ideal.main_arg4)) _ _ _
    · exact Cert.Reference4Ideal.Mix.gateA_result _ _ _ _ (m ((c.tc : Thread Cert.Kernel4Ideal.nD Cert.Kernel4Ideal.τ).loc Cert.Kernel4Ideal.main_arg4)) _ _ _
    · exact Cert.Reference4Ideal.Mix.gateB_result _ _ _ _ (m ((c.tc : Thread Cert.Kernel4Ideal.nD Cert.Kernel4Ideal.τ).loc Cert.Kernel4Ideal.main_arg4)) _ _ _

/-- The reference of the input projections leaves its arguments as they were. -/
theorem mix_in_reference : Cert.quiescent_Reference4Ideal := by
  intro m ρ _
  exact (θ_run Cert.Reference4Ideal.defs _ _).mono
    (fun r h => ⟨fun c => (h c).2.2.2.2.2.2.2.2, sem_eq_zero_of_no_sems (by decide) r.2⟩) (Cert.Reference4Ideal.Value.run m ρ)

end Cert.Proof

end
-- ==== Proof.MixOut.lean ====
module
public import proofs.«01_k».proof.Proof.Ffn

/-!
The mixer's output projections of one token, as plain functions: the depthwise convolution over the tokens before it, its
normalization, the merge of the two branches and the projection. The kernel's call and the reference are compared with these functions.
-/
set_option maxRecDepth 16384

@[expose] public section
noncomputable section

namespace Cert.MixOut
open Idealize.ShloMosaic

/-- A sequence with 32 zeros before it: entry `n` is token `n - 32`. -/
def past (u : Fin 4096 → EReal) (n : ℕ) : EReal := if h : 32 ≤ n ∧ n < 4128 then u ⟨n - 32, by omega⟩ else 0

/-- Tap `j` of a filter of 31 taps. -/
def tap (w : Fin 31 → EReal) (j : ℕ) : EReal := if h : j < 31 then w ⟨j, h⟩ else 0

/-- The causal convolution of one feature at token `s`: the bias and the products of the taps with tokens `s - 30` to `s`. -/
def conv (b : EReal) (w : Fin 31 → EReal) (u : Fin 4096 → EReal) (s : ℕ) : EReal :=
  b + ∑ j ∈ Finset.range 31, tap w j * past u (s + 2 + j)

/-- A row minus its mean. -/
def centre (r : Fin 1024 → EReal) (d : Fin 1024) : EReal := r d - Ideal.div (∑ k, r k) (Ideal.ofBits FTy.f32 0x44800000#32)

/-- The layer normalization of a row with gain `g` and shift `b`. -/
def normed (r g b : Fin 1024 → EReal) (d : Fin 1024) : EReal :=
  centre r d * Ideal.rsqrt (Ideal.div (∑ k, centre r k * centre r k) (Ideal.ofBits FTy.f32 0x44800000#32) + Ideal.ofBits FTy.f32 0x358637BD#32) * g d + b d

/-- SiLU of the normalized row. -/
def activated (r g b : Fin 1024 → EReal) (d : Fin 1024) : EReal := normed r g b d * Ideal.logistic (normed r g b d)

/-- The two branches' products with their weights, each times its gate, added. -/
def merged (ya ga gb yb : Fin 1024 → EReal) (wa wb : Fin 1024 → Fin 1024 → EReal) (d : Fin 1024) : EReal :=
  ga d * (∑ k, ya k * wa k d) + gb d * (∑ k, yb k * wb k d)

/-- The result of a token at feature `d`: the residual plus the gated product of the merged row with the output weight. -/
def out (x gate : EReal) (ya ga gb yb : Fin 1024 → EReal) (wa wb wo : Fin 1024 → Fin 1024 → EReal) (d : Fin 1024) : EReal :=
  x + gate * ∑ k, merged ya ga gb yb wa wb k * wo k d

end Cert.MixOut
end
end
-- ==== Proof.MixOutRows.lean ====
module
public import proofs.«01_k».proof.Proof.Gen.Kernel5Ideal.Frame
public import proofs.«01_k».proof.Proof.MixOut
public import Idealize.ShloMosaic.Lib.Pipeline.ValueKit
public import Idealize.ShloMosaic.Lib.Pipeline.ReadBack

/-!
The call of the mixer's output projections: the rows its body convolves. The body keeps the last 32 rows of a block of tokens above the
next block in one buffer, and convolves the buffer in eight groups of 32 rows.
-/
set_option maxRecDepth 16384
@[expose] public section
noncomputable section
open Idealize.ShloMosaic Idealize.ShloMosaic.TcCoe Idealize.SL.Sem
open Idealize.ShloMosaic.Pipeline (Dat)
namespace Cert.Kernel5Ideal.Mix
open Cert.Kernel5Ideal Cert.Kernel5Ideal.Gen Cert.MixOut
variable (m : (ℓ : Loc nD τ sig) → Buf (Elt Ideal) ℓ)

/-- Row `n` of the convolution's buffer. -/
def rowAt (U : FVec Ideal S288x1024 .f32) (n : ℕ) (d : Fin 1024) : EReal := if h : n < 288 then U (ix2 ⟨n, h⟩ d) else 0

/-- Tap `j` of the convolution. -/
def tapAt (W : FVec Ideal S31x1024 .f32) (j : ℕ) (d : Fin 1024) : EReal := Cert.MixOut.tap (fun j => W (ix2 j d)) j

/-- A buffer whose first 32 rows are `P`'s and whose other rows are `v`'s. -/
def joined (P : FVec Ideal S288x1024 .f32) (v : FVec Ideal S256x1024 .f32) : FVec Ideal S288x1024 .f32 := fun y =>
  if h : 32 ≤ (y 0).val then v (ix2 ⟨(y 0).val - 32, by have := (y 0).isLt; have : (y 0).val < 288 := this; omega⟩ (y 1)) else P y

/-- At row 32 or below the buffer holds the block. -/
theorem joined_pos (P : FVec Ideal S288x1024 .f32) (v : FVec Ideal S256x1024 .f32) (y : S288x1024.Idx) (h : 32 ≤ (y 0).val) :
    joined P v y = v (ix2 ⟨(y 0).val - 32, by have := (y 0).isLt; have : (y 0).val < 288 := this; omega⟩ (y 1)) := dif_pos h

/-- Above row 32 the buffer holds what was kept. -/
theorem joined_neg (P : FVec Ideal S288x1024 .f32) (v : FVec Ideal S256x1024 .f32) (y : S288x1024.Idx) (h : ¬ 32 ≤ (y 0).val) :
    joined P v y = P y := dif_neg h

/-- The convolution of the buffer at a row of the block. -/
def convRows (b : FVec Ideal S1x1024 .f32) (W : FVec Ideal S31x1024 .f32) (U : FVec Ideal S288x1024 .f32) : FVec Ideal S256x1024 .f32 := fun y =>
  b (ix2 0 (y 1)) + ∑ j ∈ Finset.range 31, tapAt W j (y 1) * rowAt U (2 + j + (y 0).val) (y 1)

/-- A tap loaded from the taps' array. -/
theorem ld_tap (W : FVec Ideal S31x1024 .f32) (j : ℕ) (h : ∀ a, (![j, 0] : Fin 2 → ℕ) a + (![1, 1024] : Fin 2 → ℕ) a ≤ S31x1024.size a) (u : Fin 1) (d : Fin 1024) :
    View.ld (Val := Elt Ideal) (S := S31x1024) (e' := .f32) W (Rect.unit ![j, 0] ![1, 1024] h) (ix2 u d) = tapAt W j d := by
  have hj : j < 31 := by have := h 0; have h' : j + 1 ≤ 31 := this; omega
  unfold tapAt Cert.MixOut.tap
  rw [dif_pos hj]
  refine congrArg W ?_
  idx_ext

/-- A row loaded from the buffer. -/
theorem ld_row (U : FVec Ideal S288x1024 .f32) (o : ℕ) (h : ∀ a, (![o, 0] : Fin 2 → ℕ) a + (![32, 1024] : Fin 2 → ℕ) a ≤ S288x1024.size a) (i : Fin 32) (d : Fin 1024) :
    View.ld (Val := Elt Ideal) (S := S288x1024) (e' := .f32) U (Rect.unit ![o, 0] ![32, 1024] h) (ix2 i d) = rowAt U (o + i.val) d := by
  have hj : o + i.val < 288 := by have := h 0; have h' : o + 32 ≤ 288 := this; have := i.isLt; omega
  unfold rowAt
  rw [dif_pos hj]
  refine congrArg U ?_
  idx_ext

/-- The rectangle of the block's rows in the buffer. -/
abbrev below (h : ∀ a, (![32, 0] : Fin 2 → ℕ) a + (![256, 1024] : Fin 2 → ℕ) a ≤ S288x1024.size a) : Rect S288x1024 := Rect.unit ![32, 0] ![256, 1024] h

/-- The rectangle holds the rows from 32 on. -/
theorem mem_below (h) (y : S288x1024.Idx) : y ∈ (below h).set ↔ 32 ≤ (y 0).val := by
  rw [Rect.mem_set_unit]
  constructor
  · intro H
    exact (H 0).1
  · intro H a
    match a with
    | ⟨0, _⟩ =>
      have h0 : (y 0).val < 288 := (y 0).isLt
      show 32 ≤ (y 0).val ∧ (y 0).val < 32 + 256
      omega
    | ⟨1, _⟩ =>
      have h1 : (y 1).val < 1024 := (y 1).isLt
      show 0 ≤ (y 1).val ∧ (y 1).val < 0 + 1024
      omega

/-- Stores ending with the block leave the block below row 32 and what was there above it. -/
theorem canon_block (h) (v : FVec Ideal S256x1024 .f32) (L : List (View.Piece (Elt Ideal) S288x1024 .f32)) (y : S288x1024.Idx) :
    View.canon (Val := Elt Ideal) (⟨below h, v⟩ :: L) y = joined (View.canon L) v y := by
  by_cases hy : 32 ≤ (y 0).val
  · obtain ⟨x, rfl⟩ := (below h).exists_idx_of_mem ((mem_below h y).2 hy)
    refine Eq.trans ?_ (joined_pos _ v _ hy).symm
    have e := View.canon_cons_emb (Val := Elt Ideal) (s := S288x1024) (e := .f32) (below h) v L x
    refine Eq.trans e (congrArg v (funext fun a => Fin.ext ?_))
    match a with
    | ⟨0, _⟩ => show (x 0).val = 32 + 1 * (x 0).val - 32; omega
    | ⟨1, _⟩ => show (x 1).val = 0 + 1 * (x 1).val; omega
  · refine Eq.trans ?_ (joined_neg _ v _ hy).symm
    exact View.canon_cons_of_not_mem (Val := Elt Ideal) (s := S288x1024) (e := .f32) ⟨below h, v⟩ L fun hm => hy ((mem_below h y).1 hm)

/-- Storing the block over any contents leaves those contents above row 32. -/
theorem read_block (h) (v : FVec Ideal S256x1024 .f32) (f : (View.whole cc0_scratch0).ty.Contents (Elt Ideal)) :
    View.read (s := S288x1024) (e := .f32) (Elt Ideal) (View.whole cc0_scratch0) (View.writes (s := S288x1024) (e := .f32) (View.whole cc0_scratch0) (Elt Ideal) f [⟨below h, v⟩])
      = joined (View.read (s := S288x1024) (e := .f32) (Elt Ideal) (View.whole cc0_scratch0) f) v := by
  funext y
  by_cases hy : 32 ≤ (y 0).val
  · have e := View.read_writes_apply_eq_canon (Val := Elt Ideal) (s := S288x1024) (e := .f32) (View.whole cc0_scratch0) f y [⟨below h, v⟩]
      ⟨⟨below h, v⟩, List.mem_singleton_self _, (mem_below h y).2 hy⟩
    refine Eq.trans e ?_
    refine (canon_block h v [] y).trans ?_
    exact (joined_pos _ v y hy).trans (joined_pos _ v y hy).symm
  · have e := View.read_writes_apply_of_forall_not_mem (Val := Elt Ideal) (s := S288x1024) (e := .f32) (View.whole cc0_scratch0) f y [⟨below h, v⟩] fun p hp hm => by
      obtain rfl := List.mem_singleton.1 hp
      exact hy ((mem_below h y).1 hm)
    refine Eq.trans e ?_
    exact (joined_neg _ v y hy).symm

/-- The rows from `o` on depend on the halo only below row 32. -/
theorem joined_of_le (P Q : FVec Ideal S288x1024 .f32) (v : FVec Ideal S256x1024 .f32) (o : ℕ) (ho : 32 ≤ o)
    (h : ∀ a, (![o, 0] : Fin 2 → ℕ) a + (![32, 1024] : Fin 2 → ℕ) a ≤ S288x1024.size a) :
    View.ld (Val := Elt Ideal) (S := S288x1024) (e' := .f32) (joined P v) (Rect.unit ![o, 0] ![32, 1024] h)
      = View.ld (Val := Elt Ideal) (S := S288x1024) (e' := .f32) (joined Q v) (Rect.unit ![o, 0] ![32, 1024] h) := by
  funext y
  have hy : 32 ≤ (((Rect.unit (s := S288x1024) ![o, 0] ![32, 1024] h).idx y) 0).val := by
    show 32 ≤ o + 1 * (y 0).val
    omega
  show joined P v _ = joined Q v _
  exact (joined_pos P v _ hy).trans (joined_pos Q v _ hy).symm

/-- A load of the buffer's rows where the stores cover them. -/
theorem readCov_block (h) (v : FVec Ideal S256x1024 .f32) (L : List (View.Piece (Elt Ideal) S288x1024 .f32)) (o : ℕ) (ho) :
    View.readCov (Val := Elt Ideal) (s := S288x1024) (e := .f32) (View.whole cc0_scratch0) (⟨below h, v⟩ :: L) (Rect.unit (s := S288x1024) ![o, 0] ![32, 1024] ho).toLoadRect
      = View.ld (Val := Elt Ideal) (S := S288x1024) (e' := .f32) (joined (View.canon L) v) (Rect.unit ![o, 0] ![32, 1024] ho) := by
  rw [View.readCov_eq_canon']
  exact funext fun y => canon_block h v L _

/-- A tap with index below 31. -/
theorem tap_pos (W : FVec Ideal S31x1024 .f32) (j : ℕ) (d : Fin 1024) (h : j < 31) : tapAt W j d = W (ix2 ⟨j, h⟩ d) := dif_pos h

/-- A row of the buffer with index below 288. -/
theorem row_pos (U : FVec Ideal S288x1024 .f32) (n : ℕ) (d : Fin 1024) (h : n < 288) : rowAt U n d = U (ix2 ⟨n, h⟩ d) := dif_pos h

/-- The convolved rows at a row of the group that starts at row `o`. -/
theorem convRows_at (b : FVec Ideal S1x1024 .f32) (W : FVec Ideal S31x1024 .f32) (U : FVec Ideal S288x1024 .f32) (o : ℕ)
    (h : ∀ a, (![o, 0] : Fin 2 → ℕ) a + (![32, 1024] : Fin 2 → ℕ) a ≤ S256x1024.size a) (i : Fin 32) (d : Fin 1024) :
    convRows b W U ((Rect.unit (s := S256x1024) ![o, 0] ![32, 1024] h).emb (ix2 i d))
      = b (ix2 0 d) + ∑ j ∈ Finset.range 31, tapAt W j d * rowAt U (2 + j + (o + i.val)) d := by
  have h0 : (((Rect.unit (s := S256x1024) ![o, 0] ![32, 1024] h).emb (ix2 i d)) 0).val = o + i.val := by
    show o + 1 * i.val = o + i.val
    omega
  have h1 : ((Rect.unit (s := S256x1024) ![o, 0] ![32, 1024] h).emb (ix2 i d)) 1 = d := by
    refine Fin.ext ?_
    show 0 + 1 * d.val = d.val
    omega
  unfold convRows
  rw [h0, h1]

/-- The buffer the body convolves at a grid point: the last 32 rows of the block of tokens before it, or zeros at the first, then the point's block. -/
def buffer (c : Dev nD) (t : Fin cfg0.N) : FVec Ideal S288x1024 .f32 :=
  joined (if t.val % 16 = 0 then fun _ => 0 else (outsAt0 m c (t.val - 1) (Nat.lt_of_le_of_lt (Nat.sub_le _ _) t.isLt)).2) (k0_pay3 (iblk m c 2 t))

/-- A buffer depends on what was kept only above row 32. -/
theorem joined_congr (P Q : FVec Ideal S288x1024 .f32) (v : FVec Ideal S256x1024 .f32) (h : ∀ y : S288x1024.Idx, ¬ 32 ≤ (y 0).val → P y = Q y) :
    joined P v = joined Q v := by
  funext y
  by_cases hy : 32 ≤ (y 0).val
  · exact (joined_pos P v y hy).trans (joined_pos Q v y hy).symm
  · exact (joined_neg P v y hy).trans ((h y hy).trans (joined_neg Q v y hy).symm)

/-- The zeros stored above the block are read as zeros. -/
theorem zeros_at (h) (y : S288x1024.Idx) (hy : ¬ 32 ≤ (y 0).val) :
    View.canon (Val := Elt Ideal) (s := S288x1024) (e := .f32) [⟨Rect.unit (s := S288x1024) ![0, 0] ![32, 1024] h, k0_pay2 (F := Ideal)⟩] y = 0 := by
  have hm : y ∈ (Rect.unit (s := S288x1024) ![0, 0] ![32, 1024] h).set := by
    rw [Rect.mem_set_unit]
    intro a
    match a with
    | ⟨0, _⟩ => show 0 ≤ (y 0).val ∧ (y 0).val < 0 + 32; omega
    | ⟨1, _⟩ =>
      have h1 : (y 1).val < 1024 := (y 1).isLt
      show 0 ≤ (y 1).val ∧ (y 1).val < 0 + 1024
      omega
  obtain ⟨x, rfl⟩ := (Rect.unit (s := S288x1024) ![0, 0] ![32, 1024] h).exists_idx_of_mem hm
  have e := View.canon_cons_emb (Val := Elt Ideal) (s := S288x1024) (e := .f32) (Rect.unit (s := S288x1024) ![0, 0] ![32, 1024] h) (k0_pay2 (F := Ideal)) [] x
  refine Eq.trans e ?_
  idx_vars x
  pointwise [k0_pay2]

set_option maxHeartbeats 2000000 in
/-- The output block in terms of the convolved rows of the buffer. -/
theorem block_rows (c : Dev nD) (t : Fin cfg0.N) (y : S1x256x1024.Idx) : (outsAt0 m c t.val t.isLt).1 y
    = k0_pay1 (k0_pay78 (k0_pay77 (iblk m c 3 t)) (iblk m c 10 t)) (k0_pay79 (k0_pay76 (convRows (iblk m c 7 t) (iblk m c 6 t) (buffer m c t)) (iblk m c 8 t) (iblk m c 9 t)) (iblk m c 11 t))
      (k0_pay80 (iblk m c 4 t)) (iblk m c 5 t) (View.ld (iblk m c 1 t) (Rect.unit ![0, 5, 0] ![1, 1, 1024] inb_S1x9x1024_S1x1x1024_0_5_0)) (iblk m c 0 t) (iblk m c 12 t) y := by
  by_cases h : t.val % 16 = 0
  on_goal 1 =>
    rw [outsAt0_A m c t h]
    frame_out
    simp only [readCov_block]
    have hU : buffer m c t = joined (View.canon (Val := Elt Ideal) (s := S288x1024) (e := .f32)
        [⟨Rect.unit (s := S288x1024) ![0, 0] ![32, 1024] inb_S288x1024_S32x1024_0_0, k0_pay2 (F := Ideal)⟩]) (k0_pay3 (iblk m c 2 t)) := by
      unfold buffer
      rw [if_pos h]
      exact joined_congr _ _ _ fun y hy => (zeros_at _ y hy).symm
    rw [← hU]
  on_goal 2 =>
    rw [outsAt0_B m c t h]
    frame_out
    simp only [read_unread_whole, readCov_block, read_block]
    have hU : buffer m c t = joined (outsAt0 m c (t.val - 1) (Nat.lt_of_le_of_lt (Nat.sub_le _ _) t.isLt)).2 (k0_pay3 (iblk m c 2 t)) := by
      unfold buffer
      rw [if_neg h]
    rw [← hU]
    have hb : ∀ (o : ℕ) (ho : 32 ≤ o) (h), View.ld (Val := Elt Ideal) (S := S288x1024) (e' := .f32) (joined (View.canon (Val := Elt Ideal) (s := S288x1024) (e := .f32) []) (k0_pay3 (iblk m c 2 t))) (Rect.unit ![o, 0] ![32, 1024] h)
        = View.ld (Val := Elt Ideal) (S := S288x1024) (e' := .f32) (buffer m c t) (Rect.unit ![o, 0] ![32, 1024] h) := fun o ho h => joined_of_le _ _ _ o ho h
    simp (disch := decide) only [hb]
  all_goals
    clear * -
    generalize buffer m c t = U
    generalize (iblk m c 6 t) = W
    refine congrArg (fun C : FVec Ideal S256x1024 .f32 => k0_pay1 (k0_pay78 (k0_pay77 (iblk m c 3 t)) (iblk m c 10 t)) (k0_pay79 (k0_pay76 C (iblk m c 8 t) (iblk m c 9 t)) (iblk m c 11 t))
        (k0_pay80 (iblk m c 4 t)) (iblk m c 5 t) (View.ld (iblk m c 1 t) (Rect.unit ![0, 5, 0] ![1, 1, 1024] inb_S1x9x1024_S1x1x1024_0_5_0)) (iblk m c 0 t) (iblk m c 12 t) y)
      (?_ : _ = convRows (iblk m c 7 t) W U)
    rw [View.readCov_eq_canon']
    funext j
    refine (View.canon_apply_of_pieces (Val := Elt Ideal) (S := S256x1024) (e := .f32) (convRows (iblk m c 7 t) W U) _
      (List.forall_mem_cons.2 ⟨?_, List.forall_mem_cons.2 ⟨?_, List.forall_mem_cons.2 ⟨?_, List.forall_mem_cons.2 ⟨?_, List.forall_mem_cons.2 ⟨?_,
        List.forall_mem_cons.2 ⟨?_, List.forall_mem_cons.2 ⟨?_, List.forall_mem_cons.2 ⟨?_, List.forall_mem_nil _⟩⟩⟩⟩⟩⟩⟩⟩) _ (View.cover_of_tiledBy _ ![32, 1024] (by sl_kernel_rfl) _)).trans ?_
    on_goal 9 =>
      refine congrArg (convRows (iblk m c 7 t) W U) (funext fun a => Fin.ext ?_)
      match a with
      | ⟨0, _⟩ => show 0 + 1 * (j 0).val = (j 0).val; omega
      | ⟨1, _⟩ => show 0 + 1 * (j 1).val = (j 1).val; omega
    all_goals
      intro x
      dsimp only at x ⊢
      idx_vars x
      refine Eq.trans ?_ (convRows_at _ W U _ _ x0 x1).symm
      have hx := x0.isLt
      pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, ld_tap, ld_row]
      simp only [Finset.sum_range_succ, Finset.sum_range_zero, zero_add, ← add_assoc, Nat.reduceAdd]
      simp (disch := omega) only [tap_pos, row_pos, Fin.reduceFinMk, Fin.zero_eta]

end Cert.Kernel5Ideal.Mix
end
end
-- ==== Proof.MixOutKernel.lean ====
module
public import proofs.«01_k».proof.Proof.MixOutRows
/-!
The call of the mixer's output projections: what its result array holds after the run.
-/
set_option maxRecDepth 16384
@[expose] public section
noncomputable section
open Idealize.ShloMosaic Idealize.ShloMosaic.TcCoe Idealize.SL.Sem
open Idealize.ShloMosaic.Pipeline (Dat)
namespace Cert.Kernel5Ideal.Mix
open Cert.Kernel5Ideal Cert.Kernel5Ideal.Gen Cert.MixOut
variable (m : (ℓ : Loc nD τ sig) → Buf (Elt Ideal) ℓ)

/-- The windows' block indices at every grid point. -/
theorem idx : ∀ t : Fin cfg0.N, win0_0.index t = ![t.val / 16, t.val % 16, 0] ∧ win0_1.index t = ![t.val / 16, 0, 0]
    ∧ win0_2.index t = ![t.val / 16, t.val % 16, 0] ∧ win0_3.index t = ![t.val / 16, t.val % 16, 0] ∧ win0_4.index t = ![t.val / 16, t.val % 16, 0]
    ∧ win0_5.index t = ![t.val / 16, t.val % 16, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val / 16, t.val % 16, 0] :=
  (by decide +kernel : ∀ t : Fin grid0.N, _)

/-- The normalized and activated rows the body computes from the convolved ones. -/
theorem norm_at (C : FVec Ideal S256x1024 .f32) (g b : FVec Ideal S1x1024 .f32) (i : Fin 256) (d : Fin 1024) :
    k0_pay76 (F := Ideal) C g b (ix2 i d) = activated (fun k => C (ix2 i k)) (fun k => g (ix2 0 k)) (fun k => b (ix2 0 k)) d := by
  pointwise [k0_pay76, activated, normed, centre]

/-- A product of the body. -/
theorem dot_at (v : FVec Ideal S256x1024 .bf16) (w : FVec Ideal S1024x1024 .bf16) (i : Fin 256) (d : Fin 1024) :
    k0_pay78 (F := Ideal) v w (ix2 i d) = ∑ k, v (ix2 i k) * w (ix2 k d) := by
  pointwise [k0_pay78]

/-- The other product of the body. -/
theorem dot_at' (v : FVec Ideal S256x1024 .bf16) (w : FVec Ideal S1024x1024 .bf16) (i : Fin 256) (d : Fin 1024) :
    k0_pay79 (F := Ideal) v w (ix2 i d) = ∑ k, v (ix2 i k) * w (ix2 k d) := by
  pointwise [k0_pay79]

variable (x : FVec Ideal S1x256x1024 .f32) (md : FVec Ideal S1x9x1024 .f32) (ya ga gb : FVec Ideal S1x256x1024 .bf16) (C : FVec Ideal S256x1024 .f32)
    (lg lb : FVec Ideal S1x1024 .f32) (wa wb wo : FVec Ideal S1024x1024 .bf16)

/-- The result over the blocks of a grid point, `C` the convolved rows. -/
def blockOut (r : Fin 256) (d : Fin 1024) : EReal :=
  out (x (ix3 0 r d)) (md (ix3 0 5 d)) (fun k => ya (ix3 0 r k)) (fun k => ga (ix3 0 r k)) (fun k => gb (ix3 0 r k))
    (activated (fun k => C (ix2 r k)) (fun k => lg (ix2 0 k)) (fun k => lb (ix2 0 k))) (fun k j => wa (ix2 k j)) (fun k j => wb (ix2 k j)) (fun k j => wo (ix2 k j)) d

/-- The stored block at a token and feature of the grid point. -/
theorem final_at (u : Fin 1) (r : Fin 256) (d : Fin 1024) :
    k0_pay1 (k0_pay78 (k0_pay77 ya) wa) (k0_pay79 (k0_pay76 C lg lb) wb) (k0_pay80 ga) gb
      (View.ld (Val := Elt Ideal) (S := S1x9x1024) (e' := .f32) md (Rect.unit ![0, 5, 0] ![1, 1, 1024] inb_S1x9x1024_S1x1x1024_0_5_0)) x wo (ix3 u r d)
      = blockOut x md ya ga gb C lg lb wa wb wo r d := by
  pointwise [k0_pay1, k0_pay80, k0_pay77, dot_at, dot_at', norm_at, blockOut, out, merged]

/-- Rows 256 to 287 of a buffer, stored over its first 32 rows, are the last of its block's rows. -/
theorem kept_at (P : FVec Ideal S288x1024 .f32) (v : FVec Ideal S256x1024 .f32) (L : List (View.Piece (Elt Ideal) S288x1024 .f32)) (h) (h') (i : Fin 32) (d : Fin 1024) :
    View.canon (Val := Elt Ideal) (s := S288x1024) (e := .f32) (⟨Rect.unit (s := S288x1024) ![0, 0] ![32, 1024] h,
      k0_pay75 (View.ld (Val := Elt Ideal) (S := S288x1024) (e' := .f32) (joined P v) (Rect.unit (s := S288x1024) ![256, 0] ![32, 1024] h'))⟩ :: L) (ix2 ⟨i.val, by omega⟩ d)
      = v (ix2 ⟨224 + i.val, by omega⟩ d) := by
  have hx : (ix2 ⟨i.val, by omega⟩ d : S288x1024.Idx) = (Rect.unit (s := S288x1024) ![0, 0] ![32, 1024] h).idx (ix2 i d) := by
    refine funext fun a => Fin.ext ?_
    match a with
    | ⟨0, _⟩ => show i.val = 0 + 1 * i.val; omega
    | ⟨1, _⟩ => show d.val = 0 + 1 * d.val; omega
  have e := View.canon_cons_emb (Val := Elt Ideal) (s := S288x1024) (e := .f32) (Rect.unit (s := S288x1024) ![0, 0] ![32, 1024] h)
    (k0_pay75 (View.ld (Val := Elt Ideal) (S := S288x1024) (e' := .f32) (joined P v) (Rect.unit (s := S288x1024) ![256, 0] ![32, 1024] h'))) L (ix2 i d)
  rw [hx]
  refine Eq.trans e ?_
  have hi := i.isLt
  have hr := row_pos (joined P v) (256 + i.val) d (by omega)
  have hj := joined_pos P v (ix2 ⟨256 + i.val, by omega⟩ d) (by show 32 ≤ 256 + i.val; omega)
  pointwise [k0_pay75, ld_row]
  refine Eq.trans hj (congrArg v ?_)
  idx_ext

/-- The last rows of a block are the first of the next point's buffer. -/
theorem carry_at (c : Dev nD) (t : Fin cfg0.N) (i : Fin 32) (d : Fin 1024) :
    (outsAt0 m c t.val t.isLt).2 (ix2 ⟨i.val, by omega⟩ d) = iblk m c 2 t (ix3 0 ⟨224 + i.val, by omega⟩ d) := by
  by_cases h : t.val % 16 = 0
  on_goal 1 => rw [outsAt0_A m c t h]
  on_goal 2 => rw [outsAt0_B m c t h]
  all_goals
    frame_out
    simp only [readCov_block]
    refine (kept_at _ _ _ _ _ i d).trans ?_
    pointwise [k0_pay3]

/-- A row of the block of the convolution's input is a token's. -/
theorem tokens_at (c : Dev nD) (t : Fin cfg0.N) (r : Fin 256) (d : Fin 1024) :
    iblk m c 2 t (ix3 0 r d) = m ((c : Thread nD τ).loc main_arg2) (ix3 ⟨t.val / 16, by have := t.isLt; have : t.val < 128 := this; omega⟩ ⟨t.val % 16 * 256 + r.val, by omega⟩ d) := by
  blk_ext [iblk, V, idx t]

/-- The buffer of a grid point holds the tokens from 32 before the point's block on. -/
theorem buffer_at (c : Dev nD) (t : Fin cfg0.N) (n : ℕ) (hn : n < 288) (d : Fin 1024) : rowAt (buffer m c t) n d
    = past (fun s => m ((c : Thread nD τ).loc main_arg2) (ix3 ⟨t.val / 16, by have := t.isLt; have : t.val < 128 := this; omega⟩ s d)) (t.val % 16 * 256 + n) := by
  have ht : t.val < 128 := t.isLt
  rw [row_pos _ n d hn]
  unfold buffer past
  by_cases hb : 32 ≤ n
  · refine (joined_pos _ _ _ (show 32 ≤ n from hb)).trans ?_
    rw [dif_pos ⟨by omega, by omega⟩]
    have e := tokens_at m c t ⟨n - 32, by omega⟩ d
    refine Eq.trans ?_ (e.trans (congrArg (m ((c : Thread nD τ).loc main_arg2)) ?_))
    · pointwise [k0_pay3]
    · congr 1
      exact Fin.ext (show t.val % 16 * 256 + (n - 32) = t.val % 16 * 256 + n - 32 by omega)
  · refine (joined_neg _ _ _ (show ¬ 32 ≤ n from hb)).trans ?_
    by_cases h : t.val % 16 = 0
    · rw [if_pos h, dif_neg (by omega)]
    · rw [if_neg h, dif_pos ⟨by omega, by omega⟩]
      have hp : t.val - 1 < cfg0.N := Nat.lt_of_le_of_lt (Nat.sub_le _ _) t.isLt
      have e := (carry_at m c ⟨t.val - 1, hp⟩ ⟨n, by omega⟩ d).trans (tokens_at m c ⟨t.val - 1, hp⟩ ⟨224 + n, by omega⟩ d)
      refine Eq.trans e (congrArg (m ((c : Thread nD τ).loc main_arg2)) ?_)
      congr 1
      · exact Fin.ext (show (t.val - 1) / 16 = t.val / 16 by omega)
      · exact Fin.ext (show (t.val - 1) % 16 * 256 + (224 + n) = t.val % 16 * 256 + n - 32 by omega)

/-- The convolved rows of a grid point. -/
theorem convRows_eq (c : Dev nD) (t : Fin cfg0.N) (b : FVec Ideal S1x1024 .f32) (W : FVec Ideal S31x1024 .f32) (r : Fin 256) (d : Fin 1024) :
    convRows b W (buffer m c t) (ix2 r d) = conv (b (ix2 0 d)) (fun j => W (ix2 j d))
      (fun s => m ((c : Thread nD τ).loc main_arg2) (ix3 ⟨t.val / 16, by have := t.isLt; have : t.val < 128 := this; omega⟩ s d)) (t.val % 16 * 256 + r.val) := by
  unfold convRows conv
  refine congrArg (b (ix2 0 d) + ·) (Finset.sum_congr rfl fun j hj => ?_)
  have hj := Finset.mem_range.1 hj
  have hr := r.isLt
  refine congrArg (tap (fun j => W (ix2 j d)) j * ·) ((buffer_at m c t (2 + j + r.val) (by omega) d).trans (congrArg _ ?_))
  omega

/-- The result of every token, from the call's argument arrays. -/
def result (x : FVec Ideal S8x4096x1024 .f32) (md : FVec Ideal S8x9x1024 .f32) (u : FVec Ideal S8x4096x1024 .f32) (ya ga gb : FVec Ideal S8x4096x1024 .bf16)
    (cw : FVec Ideal S1x31x1024 .f32) (cb lg lb : FVec Ideal S1x1024 .f32) (wa wb wo : FVec Ideal S1x1024x1024 .f32) : S8x4096x1024.Idx → EReal := fun i =>
  out (x i) (md (ix3 (i 0) 5 (i 2))) (fun k => ya (ix3 (i 0) (i 1) k)) (fun k => ga (ix3 (i 0) (i 1) k)) (fun k => gb (ix3 (i 0) (i 1) k))
    (activated (fun k => conv (cb (ix2 0 k)) (fun j => cw (ix3 0 j k)) (fun s => u (ix3 (i 0) s k)) (i 1).val) (fun k => lg (ix2 0 k)) (fun k => lb (ix2 0 k)))
    (fun k j => wa (ix3 0 k j)) (fun k j => wb (ix3 0 k j)) (fun k j => wo (ix3 0 k j)) (i 2)

/-- The window of the taps holds the whole array at every grid point. -/
theorem whole6_at (t : Fin cfg0.N) (k : Fin 31) (j : Fin 1024) : (win0_6.blk t).view.emb (ix2 k j) = ix2 k j := by
  refine funext fun i => Fin.ext ?_
  match i with
  | ⟨0, _⟩ => blk_simp [idx t]
  | ⟨1, _⟩ => blk_simp [idx t]

/-- The taps as the kernel takes it. -/
theorem entry6_at (c : Dev nD) (t : Fin cfg0.N) (k : Fin 31) (j : Fin 1024) :
    iblk m c 6 t (ix2 k j) = m ((c : Thread nD τ).loc main_arg6) (ix3 0 k j) := by
  blk_simp [iblk, idx t]
  rw [whole6_at]
  entry_read
  pointwise

/-- The window of the first branch's weight holds the whole array at every grid point. -/
theorem whole10_at (t : Fin cfg0.N) (k : Fin 1024) (j : Fin 1024) : (win0_10.blk t).view.emb (ix2 k j) = ix2 k j := by
  refine funext fun i => Fin.ext ?_
  match i with
  | ⟨0, _⟩ => blk_simp [idx t]
  | ⟨1, _⟩ => blk_simp [idx t]

/-- The first branch's weight as the kernel takes it. -/
theorem entry10_at (c : Dev nD) (t : Fin cfg0.N) (k : Fin 1024) (j : Fin 1024) :
    iblk m c 10 t (ix2 k j) = m ((c : Thread nD τ).loc main_arg10) (ix3 0 k j) := by
  blk_simp [iblk, idx t]
  rw [whole10_at]
  entry_read
  pointwise

/-- The window of the second branch's weight holds the whole array at every grid point. -/
theorem whole11_at (t : Fin cfg0.N) (k : Fin 1024) (j : Fin 1024) : (win0_11.blk t).view.emb (ix2 k j) = ix2 k j := by
  refine funext fun i => Fin.ext ?_
  match i with
  | ⟨0, _⟩ => blk_simp [idx t]
  | ⟨1, _⟩ => blk_simp [idx t]

/-- The second branch's weight as the kernel takes it. -/
theorem entry11_at (c : Dev nD) (t : Fin cfg0.N) (k : Fin 1024) (j : Fin 1024) :
    iblk m c 11 t (ix2 k j) = m ((c : Thread nD τ).loc main_arg11) (ix3 0 k j) := by
  blk_simp [iblk, idx t]
  rw [whole11_at]
  entry_read
  pointwise

/-- The window of the output weight holds the whole array at every grid point. -/
theorem whole12_at (t : Fin cfg0.N) (k : Fin 1024) (j : Fin 1024) : (win0_12.blk t).view.emb (ix2 k j) = ix2 k j := by
  refine funext fun i => Fin.ext ?_
  match i with
  | ⟨0, _⟩ => blk_simp [idx t]
  | ⟨1, _⟩ => blk_simp [idx t]

/-- The output weight as the kernel takes it. -/
theorem entry12_at (c : Dev nD) (t : Fin cfg0.N) (k : Fin 1024) (j : Fin 1024) :
    iblk m c 12 t (ix2 k j) = m ((c : Thread nD τ).loc main_arg12) (ix3 0 k j) := by
  blk_simp [iblk, idx t]
  rw [whole12_at]
  entry_read
  pointwise

/-- Equal parts give equal results. -/
theorem out_congr {x x' g g' : EReal} {ya ya' ga ga' gb gb' yb yb' : Fin 1024 → EReal} {wa wa' wb wb' wo wo' : Fin 1024 → Fin 1024 → EReal} {d d' : Fin 1024}
    (h1 : x = x') (h2 : g = g') (h3 : ∀ k, ya k = ya' k) (h4 : ∀ k, ga k = ga' k) (h5 : ∀ k, gb k = gb' k) (h6 : yb = yb')
    (h7 : ∀ k j, wa k j = wa' k j) (h8 : ∀ k j, wb k j = wb' k j) (h9 : ∀ k j, wo k j = wo' k j) (h10 : d = d') :
    out x g ya ga gb yb wa wb wo d = out x' g' ya' ga' gb' yb' wa' wb' wo' d' := by
  obtain rfl := h1; obtain rfl := h2; obtain rfl := funext h3; obtain rfl := funext h4; obtain rfl := funext h5; obtain rfl := h6
  obtain rfl := funext fun k => funext (h7 k); obtain rfl := funext fun k => funext (h8 k); obtain rfl := funext fun k => funext (h9 k); obtain rfl := h10
  rfl

/-- Equal rows, gains and shifts give equal activations. -/
theorem activated_congr {r r' g g' b b' : Fin 1024 → EReal} (h1 : ∀ k, r k = r' k) (h2 : ∀ k, g k = g' k) (h3 : ∀ k, b k = b' k) :
    activated r g b = activated r' g' b' := by
  obtain rfl := funext h1; obtain rfl := funext h2; obtain rfl := funext h3
  rfl

/-- Equal biases, taps and sequences give equal convolutions. -/
theorem conv_congr {b b' : EReal} {w w' : Fin 31 → EReal} {u u' : Fin 4096 → EReal} {s s' : ℕ} (h1 : b = b') (h2 : ∀ j, w j = w' j) (h3 : ∀ j, u j = u' j) (h4 : s = s') :
    conv b w u s = conv b' w' u' s' := by
  obtain rfl := h1; obtain rfl := funext h2; obtain rfl := funext h3; obtain rfl := h4
  rfl

/-- The result over the blocks of a grid point is that of the argument arrays at the block's tokens. -/
theorem block_at (c : Dev nD) (t : Fin cfg0.N) (r : Fin 256) (d : Fin 1024) (i : S8x4096x1024.Idx)
    (h0 : (i 0).val = t.val / 16) (h1 : (i 1).val = t.val % 16 * 256 + r.val) (h2 : (i 2).val = d.val) :
    blockOut (iblk m c 0 t) (iblk m c 1 t) (iblk m c 3 t) (iblk m c 4 t) (iblk m c 5 t) (convRows (iblk m c 7 t) (iblk m c 6 t) (buffer m c t))
        (iblk m c 8 t) (iblk m c 9 t) (iblk m c 10 t) (iblk m c 11 t) (iblk m c 12 t) r d
      = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) i := by
  unfold blockOut result
  refine out_congr ?_ ?_ (fun k => ?_) (fun k => ?_) (fun k => ?_) (activated_congr (fun k => ?_) (fun k => ?_) (fun k => ?_))
    (fun k j => entry10_at m c t k j) (fun k j => entry11_at m c t k j) (fun k j => entry12_at m c t k j) (Fin.ext h2.symm)
  · blk_ext [iblk, V, idx t]
  · blk_ext [iblk, V, idx t]
  · blk_ext [iblk, V, idx t]
  · blk_ext [iblk, V, idx t]
  · blk_ext [iblk, V, idx t]
  · refine (convRows_eq m c t _ _ r k).trans (conv_congr ?_ (fun j => entry6_at m c t j k) (fun s => congrArg (m ((c : Thread nD τ).loc main_arg2)) ?_) h1.symm)
    · blk_ext [iblk, V, idx t]
    · exact congrArg (fun b => ix3 b s k) (Fin.ext h0.symm)
  · blk_ext [iblk, V, idx t]
  · blk_ext [iblk, V, idx t]

/-- The result array after the run. -/
theorem final (c : Dev nD) : (dats m 0 c).arrAt 13 (cfgs 0).N
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) := by
  refine (dats m 0 c).arrAt_eq_of_covers 13 _ (by decide +kernel) fun t _ y => ?_
  blk_simp
  rw [after0_13]
  idx_vars y
  refine (block_rows m c t _).trans ((final_at _ _ _ _ _ _ _ _ _ _ _ y0 y1 y2).trans ?_)
  refine block_at m c t y1 y2 _ ?_ ?_ ?_ <;> blk_simp [idx t]

end Cert.Kernel5Ideal.Mix
end
end
-- ==== Proof.MixOutRef.lean ====
module
public import proofs.«01_k».proof.Proof.Gen.Reference5Ideal.Run
public import proofs.«01_k».proof.Proof.FfnRef
public import proofs.«01_k».proof.Proof.MixOut

/-!
The reference of the mixer's output projections, one stage at a time, each stage read at an index.
-/
set_option maxRecDepth 16384

@[expose] public section
noncomputable section
open Idealize.ShloMosaic Idealize.ShloMosaic.TcCoe Idealize.SL.Sem

namespace Cert.Reference5Ideal.Mix
open Cert.Reference5Ideal Cert.Reference5Ideal.Gen Cert.MixOut Cert.Reference5Ideal.Value

variable (V0 : Valuation τ sig (Elt Ideal))

/-- The padded sequence of the reference starts two entries into the sequence with 32 zeros before it. -/
theorem pad_at (b : Fin 8) (n : Fin 4126) (d : Fin 1024) : res_main_v8 (F := Ideal) V0 (ix3 b n d)
    = past (fun s => (V0 (Proc.devRef .tc main_arg2) : FVec Ideal S8x4096x1024 .f32) (ix3 b s d)) (n.val + 2) := by
  have hn := n.isLt
  unfold res_main_v8 past
  pointwise
  by_cases h : 30 ≤ n.val
  · rw [dif_pos, dif_pos ⟨by omega, by omega⟩]
    · refine congrArg (V0 (Proc.devRef .tc main_arg2)) (congrArg (fun s => ix3 b s d) (Fin.ext ?_))
      show n.val - 30 = n.val + 2 - 32
      omega
    · intro a
      match a with
      | ⟨0, _⟩ => show 0 ≤ b.val ∧ (b.val - 0) % (0 + 1) = 0 ∧ (b.val - 0) / (0 + 1) < 8; omega
      | ⟨1, _⟩ => show 30 ≤ n.val ∧ (n.val - 30) % (0 + 1) = 0 ∧ (n.val - 30) / (0 + 1) < 4096; omega
      | ⟨2, _⟩ => show 0 ≤ d.val ∧ (d.val - 0) % (0 + 1) = 0 ∧ (d.val - 0) / (0 + 1) < 1024; omega
  · rw [dif_neg, dif_neg (by omega)]
    · show (((0#32 : BitVec 32).toInt : ℝ) : EReal) = 0
      simp
    · intro H
      have h1 := (H ⟨1, by decide⟩).1
      exact h h1

/-- A tap with index below 31. -/
theorem tap_pos (w : Fin 31 → EReal) (j : ℕ) (h : j < 31) : tap w j = w ⟨j, h⟩ := dif_pos h

/-- The convolution of the reference at a token and feature. -/
theorem conv_at (b : Fin 8) (s : Fin 4096) (d : Fin 1024) : res_main_v229 (F := Ideal) V0 (ix3 b s d)
    = conv ((V0 (Proc.devRef .tc main_arg7) : FVec Ideal S1x1024 .f32) (ix2 0 d)) (fun j => (V0 (Proc.devRef .tc main_arg6) : FVec Ideal S1x31x1024 .f32) (ix3 0 j d))
      (fun s => (V0 (Proc.devRef .tc main_arg2) : FVec Ideal S8x4096x1024 .f32) (ix3 b s d)) s.val := by
  have hw : ∀ j : Fin 31, res_main_v6 (F := Ideal) V0 (ix2 j d) = (V0 (Proc.devRef .tc main_arg6) : FVec Ideal S1x31x1024 .f32) (ix3 0 j d) := fun j => by
    pointwise [res_main_v6]
  have hp : ∀ (n : ℕ) (h : n < 4126), res_main_v8 (F := Ideal) V0 (ix3 b ⟨n, h⟩ d) = _ := fun n h => pad_at V0 b ⟨n, h⟩ d
  have hs : ∀ j, s.val + 2 + j = j + s.val + 2 := fun j => by omega
  refine Eq.trans ?_ (add_comm (G := EReal) _ _)
  unfold res_main_v229 res_main_v163 res_main_v86
  generalize res_main_v8 V0 = up at hp ⊢
  generalize res_main_v6 V0 = w at hw ⊢
  pointwise
  simp only [hp, hw, hs, Finset.sum_range_succ, Finset.sum_range_zero, zero_add]
  simp (disch := omega) only [tap_pos, Fin.reduceFinMk, Fin.zero_eta]

/-- The normalized rows of the reference at a token and feature, from the convolved rows. -/
theorem norm_at (b : Fin 8) (s : Fin 4096) (d : Fin 1024) : res_main_v253 (F := Ideal) V0 (ix3 b s d)
    = normed (fun k => res_main_v229 (F := Ideal) V0 (ix3 b s k)) (fun k => (V0 (Proc.devRef .tc main_arg8) : FVec Ideal S1x1024 .f32) (ix2 0 k))
      (fun k => (V0 (Proc.devRef .tc main_arg9) : FVec Ideal S1x1024 .f32) (ix2 0 k)) d := by
  unfold res_main_v253 res_main_v237
  generalize res_main_v229 V0 = C
  pointwise [normed, centre]

/-- A product of every token's row with a weight. -/
def product (y : FVec Ideal S8x4096x1024 .f32) (w : FVec Ideal S1x1024x1024 .f32) : FVec Ideal S8x4096x1024 .f32 :=
  Host.dotGeneral dot_S8x4096x1024_S1024x1024_S8x4096x1024_2_0_01_1_n_n none y (shapeCast _ w shapeCasts_S1x1024x1024_S1024x1024)

/-- SiLU as the reference writes it. -/
def silu (h : FVec Ideal S8x4096x1024 .f32) : FVec Ideal S8x4096x1024 .f32 :=
  mulf h (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf h))))

/-- The result of the reference from its arguments and the normalized rows `h`. -/
def result (x : FVec Ideal S8x4096x1024 .f32) (md : FVec Ideal S8x9x1024 .f32) (ya ga gb : FVec Ideal S8x4096x1024 .bf16) (wa wb wo : FVec Ideal S1x1024x1024 .f32)
    (h : FVec Ideal S8x4096x1024 .f32) : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2
      (shapeCast _ (extractStridedSlice S8x1x1024 ![0, 5, 0] md slices_S8x9x1024_S8x1x1024_0_5_0) shapeCasts_S8x1x1024_S8x1024)))
    (product (addf (mulf (extf .f32 ga bitsLt_bf16_f32) (product (extf .f32 ya bitsLt_bf16_f32) wa)) (mulf (extf .f32 gb bitsLt_bf16_f32) (product (silu h) wb))) wo))

/-- A product at a token and feature. -/
theorem product_at (y : FVec Ideal S8x4096x1024 .f32) (w : FVec Ideal S1x1024x1024 .f32) (b : Fin 8) (s : Fin 4096) (d : Fin 1024) :
    product y w (ix3 b s d) = ∑ k, y (ix3 b s k) * w (ix3 0 k d) := by
  pointwise [product]

/-- SiLU at a token and feature. -/
theorem silu_at (h : FVec Ideal S8x4096x1024 .f32) (b : Fin 8) (s : Fin 4096) (d : Fin 1024) :
    silu h (ix3 b s d) = h (ix3 b s d) * Ideal.logistic (h (ix3 b s d)) := by
  pointwise [silu]
  rfl

/-- The result at a token and feature, from the normalized rows. -/
theorem stage_at (x : FVec Ideal S8x4096x1024 .f32) (md : FVec Ideal S8x9x1024 .f32) (ya ga gb : FVec Ideal S8x4096x1024 .bf16) (wa wb wo : FVec Ideal S1x1024x1024 .f32)
    (h : FVec Ideal S8x4096x1024 .f32) (b : Fin 8) (s : Fin 4096) (d : Fin 1024) : result x md ya ga gb wa wb wo h (ix3 b s d)
      = out (x (ix3 b s d)) (md (ix3 b 5 d)) (fun k => ya (ix3 b s k)) (fun k => ga (ix3 b s k)) (fun k => gb (ix3 b s k))
        (fun k => h (ix3 b s k) * Ideal.logistic (h (ix3 b s k))) (fun k j => wa (ix3 0 k j)) (fun k j => wb (ix3 0 k j)) (fun k j => wo (ix3 0 k j)) d := by
  pointwise [result, product_at, silu_at, out, merged]

/-- The result of the reference at a token and feature. -/
theorem result_at (b : Fin 8) (s : Fin 4096) (d : Fin 1024) :
    result (V0 (Proc.devRef .tc main_arg0)) (V0 (Proc.devRef .tc main_arg1)) (V0 (Proc.devRef .tc main_arg3)) (V0 (Proc.devRef .tc main_arg4)) (V0 (Proc.devRef .tc main_arg5))
      (V0 (Proc.devRef .tc main_arg10)) (V0 (Proc.devRef .tc main_arg11)) (V0 (Proc.devRef .tc main_arg12)) (res_main_v253 V0) (ix3 b s d)
    = out ((V0 (Proc.devRef .tc main_arg0) : FVec Ideal S8x4096x1024 .f32) (ix3 b s d)) ((V0 (Proc.devRef .tc main_arg1) : FVec Ideal S8x9x1024 .f32) (ix3 b 5 d))
      (fun k => (V0 (Proc.devRef .tc main_arg3) : FVec Ideal S8x4096x1024 .bf16) (ix3 b s k)) (fun k => (V0 (Proc.devRef .tc main_arg4) : FVec Ideal S8x4096x1024 .bf16) (ix3 b s k)) (fun k => (V0 (Proc.devRef .tc main_arg5) : FVec Ideal S8x4096x1024 .bf16) (ix3 b s k))
      (activated (fun k => conv ((V0 (Proc.devRef .tc main_arg7) : FVec Ideal S1x1024 .f32) (ix2 0 k)) (fun j => (V0 (Proc.devRef .tc main_arg6) : FVec Ideal S1x31x1024 .f32) (ix3 0 j k)) (fun s => (V0 (Proc.devRef .tc main_arg2) : FVec Ideal S8x4096x1024 .f32) (ix3 b s k)) s.val)
        (fun k => (V0 (Proc.devRef .tc main_arg8) : FVec Ideal S1x1024 .f32) (ix2 0 k)) (fun k => (V0 (Proc.devRef .tc main_arg9) : FVec Ideal S1x1024 .f32) (ix2 0 k)))
      (fun k j => (V0 (Proc.devRef .tc main_arg10) : FVec Ideal S1x1024x1024 .f32) (ix3 0 k j)) (fun k j => (V0 (Proc.devRef .tc main_arg11) : FVec Ideal S1x1024x1024 .f32) (ix3 0 k j)) (fun k j => (V0 (Proc.devRef .tc main_arg12) : FVec Ideal S1x1024x1024 .f32) (ix3 0 k j)) d := by
  refine (stage_at _ _ _ _ _ _ _ _ _ b s d).trans ?_
  congr 1
  funext k
  unfold activated
  rw [norm_at]
  simp only [conv_at]

/-- The reference's run: its result by the stages above, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 8) (s : Fin 4096) (d : Fin 1024), (r.2.mem ((c.tc : Thread nD τ).loc main_v266) : FVec Ideal S8x4096x1024 .f32) (ix3 b s d) = out ((m ((c.tc : Thread nD τ).loc main_arg0) : FVec Ideal S8x4096x1024 .f32) (ix3 b s d)) ((m ((c.tc : Thread nD τ).loc main_arg1) : FVec Ideal S8x9x1024 .f32) (ix3 b 5 d))
      (fun k => (m ((c.tc : Thread nD τ).loc main_arg3) : FVec Ideal S8x4096x1024 .bf16) (ix3 b s k)) (fun k => (m ((c.tc : Thread nD τ).loc main_arg4) : FVec Ideal S8x4096x1024 .bf16) (ix3 b s k)) (fun k => (m ((c.tc : Thread nD τ).loc main_arg5) : FVec Ideal S8x4096x1024 .bf16) (ix3 b s k))
      (activated (fun k => conv ((m ((c.tc : Thread nD τ).loc main_arg7) : FVec Ideal S1x1024 .f32) (ix2 0 k)) (fun j => (m ((c.tc : Thread nD τ).loc main_arg6) : FVec Ideal S1x31x1024 .f32) (ix3 0 j k)) (fun s => (m ((c.tc : Thread nD τ).loc main_arg2) : FVec Ideal S8x4096x1024 .f32) (ix3 b s k)) s.val)
        (fun k => (m ((c.tc : Thread nD τ).loc main_arg8) : FVec Ideal S1x1024 .f32) (ix2 0 k)) (fun k => (m ((c.tc : Thread nD τ).loc main_arg9) : FVec Ideal S1x1024 .f32) (ix2 0 k)))
      (fun k j => (m ((c.tc : Thread nD τ).loc main_arg10) : FVec Ideal S1x1024x1024 .f32) (ix3 0 k j)) (fun k j => (m ((c.tc : Thread nD τ).loc main_arg11) : FVec Ideal S1x1024x1024 .f32) (ix3 0 k j)) (fun k j => (m ((c.tc : Thread nD τ).loc main_arg12) : FVec Ideal S1x1024x1024 .f32) (ix3 0 k j)) d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (Value.run m ρ)
  obtain ⟨h0, hargs⟩ := h c
  refine ⟨fun b s d => ?_, hargs⟩
  refine Eq.trans (congrFun h0 (ix3 b s d)) ?_
  refine Eq.trans ?_ (result_at (StableHlo.launchContents m c) b s d)
  unfold result product silu
  rfl

end Cert.Reference5Ideal.Mix
end
end
-- ==== Proof.AdaLn.lean ====
module
public import proofs.«01_k».proof.Proof.Gen.Kernel6Ideal.Frame
public import proofs.«01_k».proof.Proof.Gen.Reference6Ideal.Run
public import Idealize.ShloMosaic.Lib.Pointwise
public import Idealize.ShloMosaic.Lib.Pipeline.ValueKit
public import Idealize.ShloMosaic.Lib.Pipeline.ReadBack

/-!
The adaLN modulation: what the call and its reference compute from the conditioning vectors.
-/
set_option maxRecDepth 16384
@[expose] public section
noncomputable section
open Idealize.ShloMosaic Idealize.ShloMosaic.TcCoe Idealize.SL.Sem
open Idealize.ShloMosaic.Pipeline (Dat)

namespace Cert.AdaLn

/-- A feature of the modulation of one sequence: the SiLU of its conditioning vector `c` times a column of the weight, plus the bias. -/
def feature (c w : Fin 1024 → EReal) (b : EReal) : EReal :=
  (∑ k, c k * Ideal.logistic (c k) * w k) + b

end Cert.AdaLn

namespace Cert.Kernel6Ideal.AdaLn
open Cert.Kernel6Ideal Cert.Kernel6Ideal.Gen Cert.AdaLn
variable (m : (ℓ : Loc nD τ sig) → Buf (Elt Ideal) ℓ)

/-- The windows' block indices at every grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What a grid point stores, over its blocks. -/
theorem stored_at (c : FVec Ideal S8x1024 .f32) (w : FVec Ideal S1024x1024 .f32) (b : FVec Ideal S1x1024 .f32) (i : Fin 8) (d : Fin 1024) :
    k0_pay1 (F := Ideal) c w b (ix2 i d) = feature (fun k => c (ix2 i k)) (fun k => w (ix2 k d)) (b (ix2 0 d)) := by
  pointwise [k0_pay1, feature]

/-- The modulation of every sequence from the call's argument arrays, as rows of 9216 features. -/
def rows (c : FVec Ideal S8x1024 .f32) (w : FVec Ideal S1x1024x9216 .f32) (b : FVec Ideal S1x9216 .f32) : FVec Ideal S8x9216 .f32 :=
  fun i => feature (fun k => c (ix2 (i 0) k)) (fun k => w (ix3 0 k (i 1))) (b (ix2 0 (i 1)))

/-- A grid point's block of the weight is 1024 of its columns. -/
theorem column_at (t : Fin cfg0.N) (k d : Fin 1024) :
    ((View.whole main_v0).slice (win0_1.rect t)).emb (ix2 k d) = ix2 k ⟨t.val * 1024 + d.val, by have := t.isLt; have : t.val < 9 := this; omega⟩ := by
  refine funext fun i => Fin.ext ?_
  match i with
  | ⟨0, _⟩ => blk_simp [idx t]
  | ⟨1, _⟩ => blk_simp [idx t]

/-- The weight as the kernel takes it, read at a feature and a column of a grid point. -/
theorem weight_at (c : Dev nD) (t : Fin cfg0.N) (k d : Fin 1024) :
    iblk m c 1 t (ix2 k d) = m ((c : Thread nD τ).loc main_arg1) (ix3 0 k ⟨t.val * 1024 + d.val, by have := t.isLt; have : t.val < 9 := this; omega⟩) := by
  blk_simp [iblk, idx t]
  rw [column_at]
  show StableHlo.after hostOps0 (fun b => m (c, b)) (Proc.devRef .tc main_v0) (ix2 k _) = _
  entry_read
  pointwise

/-- The array the call writes is the modulation of every sequence. -/
theorem final (c : Dev nD) : (dats m 0 c).arrAt 3 (cfgs 0).N
    = rows (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  idx_vars y
  frame_out
  refine (stored_at _ _ _ y0 y1).trans ?_
  unfold rows
  congr 1
  · funext k; blk_ext [iblk, V, idx t]
  · funext k
    refine (weight_at m c t k y1).trans (congrArg (fun n => m ((c : Thread nD τ).loc main_arg1) (ix3 0 k n)) (Fin.ext ?_))
    blk_simp [idx t]
  · blk_ext [iblk, V, idx t]

/-- The program's result: the modulation of every sequence, cut into its nine vectors. -/
theorem result_eq (c : Dev nD) : Pipeline.afterTail₀ cfgs (dats m) 0 (V0 m) [hostOps1] c main_v2
    = shapeCast S8x9x1024 (rows (m ((c : Thread nD τ).loc main_arg0)) (m ((c : Thread nD τ).loc main_arg1)) (m ((c : Thread nD τ).loc main_arg2))) shapeCasts_S8x9216_S8x9x1024 := by
  have e := (Pipeline.withArrays_arr (cfgs 0).spec (by decide) c (V0 m c) (fun w => (dats m 0 c).arrAt w (cfgs 0).N) 3).trans (final m c)
  unfold Pipeline.afterTail₀
  show StableHlo.after hostOps1 _ _ = _
  generalize Pipeline.withArrays (cfgs 0).spec c (V0 m c) (fun w => (dats m 0 c).arrAt w (cfgs 0).N) = W at e ⊢
  after_results
  exact congrArg (fun v => shapeCast S8x9x1024 v shapeCasts_S8x9216_S8x9x1024) e

end Cert.Kernel6Ideal.AdaLn

namespace Cert.Reference6Ideal.AdaLn
open Cert.Reference6Ideal Cert.Reference6Ideal.Gen Cert.AdaLn

/-- The reference's SiLU of the conditioning vectors. -/
def silu (c : FVec Ideal S8x1024 .f32) : FVec Ideal S8x1024 .f32 :=
  mulf c (Host.divf (broadcastInDim S8x1024 ![] bcast_S_S8x1024 (constant S_ .f32 0x3F800000#32))
    (addf (broadcastInDim S8x1024 ![] bcast_S_S8x1024 (constant S_ .f32 0x3F800000#32)) (Host.exp (Host.negf c))))

/-- That SiLU, read at a sequence and feature. -/
theorem silu_at (c : FVec Ideal S8x1024 .f32) (i : Fin 8) (k : Fin 1024) :
    silu c (ix2 i k) = c (ix2 i k) * Ideal.logistic (c (ix2 i k)) := by
  pointwise [silu]
  rfl

/-- The reference's result from its argument arrays. -/
def result (c : FVec Ideal S8x1024 .f32) (w : FVec Ideal S1x1024x9216 .f32) (b : FVec Ideal S1x9216 .f32) : FVec Ideal S8x9x1024 .f32 :=
  shapeCast _ (addf (Host.dotGeneral dot_S8x1024_S1024x9216_S8x9216_1_0_0_1_n_n none (silu c) (shapeCast _ w shapeCasts_S1x1024x9216_S1024x9216))
    (broadcastInDim S8x9216 ![0, 1] bcast_S1x9216_S8x9216_0_1 (broadcastInDim S1x9216 ![1] bcast_S9216_S1x9216_1 (shapeCast _ b shapeCasts_S1x9216_S9216))))
    shapeCasts_S8x9216_S8x9x1024

/-- The reference's result is the modulation of every sequence, cut into its nine vectors. -/
theorem result_eq (c : FVec Ideal S8x1024 .f32) (w : FVec Ideal S1x1024x9216 .f32) (b : FVec Ideal S1x9216 .f32) :
    result c w b = shapeCast _ (Cert.Kernel6Ideal.AdaLn.rows c w b) shapeCasts_S8x9216_S8x9x1024 := by
  unfold result
  refine congrArg (fun v => shapeCast S8x9x1024 v shapeCasts_S8x9216_S8x9x1024) ?_
  funext i
  idx_vars i
  pointwise [Cert.Kernel6Ideal.AdaLn.rows, feature, silu_at]

end Cert.Reference6Ideal.AdaLn
end
end
-- ==== Proof.lean ====
/- The claims of `proofs.«01_k».proof.Defs`: calls of the block, each with its frames, its idealization and its value. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.HgrnFrame
public import proofs.«01_k».proof.Proof.HgrnIdealFrame
public import proofs.«01_k».proof.Proof.Gen.Reference6Ideal
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Ffn2
public import proofs.«01_k».proof.Proof.Ffn3
public import proofs.«01_k».proof.Proof.FfnRef
public import proofs.«01_k».proof.Proof.MixInClaim
public import proofs.«01_k».proof.Proof.MixOutKernel
public import proofs.«01_k».proof.Proof.MixOutRef
public import proofs.«01_k».proof.Proof.AdaLn
public import Idealize.ShloMosaic.Lib.Claim
public import Idealize.ShloMosaic.Adequacy
public import Idealize.ShloMosaic.Init

@[expose] public section

noncomputable section

namespace Cert.Proof

open Idealize.ShloMosaic Idealize.SL.Sem Cert.Kernel2

/-- The first feed-forward call computes the reference's half-step at every token. -/
theorem ffn_first : Cert.algebraic_Kernel2Ideal_Reference2Ideal := by
  pair_intro
  · run_from Cert.Kernel2Ideal.Gen.run_main m g
  · run_from Cert.Reference2Ideal.Value.run m' g'
    obtain ⟨h0, h1, h2, h3, h4, -⟩ := hagree c
    rw [Cert.Kernel2Ideal.Ffn.final m c]
    refine (Cert.Reference2Ideal.Ffn.res_eq m' c).trans ?_
    rw [h0, h1, h2, h3, h4]
    funext i
    idx_vars i
    exact Cert.Reference2Ideal.Ffn.result_at _ _ _ _ _ _ _ _

/-- The second feed-forward call computes the reference's half-step and the final normalization at every token. -/
theorem ffn_second : Cert.algebraic_Kernel3Ideal_Reference3Ideal := by
  pair_intro
  · run_from Cert.Kernel3Ideal.Gen.run_main m g
  · run_from Cert.Reference3Ideal.Value.run m' g'
    obtain ⟨h0, h1, h2, h3, h4, h5⟩ := hagree c
    rw [Cert.Kernel3Ideal.Ffn.final m c]
    refine (Cert.Reference3Ideal.Ffn.res_eq m' c).trans ?_
    rw [h0, h1, h2, h3, h4, h5]
    funext i
    idx_vars i
    exact Cert.Reference3Ideal.Ffn.result_at _ _ _ _ _ _ _ _ _

/-- The reference of the first feed-forward call leaves its arguments as they were. -/
theorem ffn_first_reference : Cert.quiescent_Reference2Ideal := by
  intro m ρ _
  exact (θ_run Cert.Reference2Ideal.defs _ _).mono
    (fun r h => ⟨fun c => (h c).2, sem_eq_zero_of_no_sems (by decide) r.2⟩) (Cert.Reference2Ideal.Value.run m ρ)

/-- The reference of the second feed-forward call leaves its arguments as they were. -/
theorem ffn_second_reference : Cert.quiescent_Reference3Ideal := by
  intro m ρ _
  exact (θ_run Cert.Reference3Ideal.defs _ _).mono
    (fun r h => ⟨fun c => (h c).2, sem_eq_zero_of_no_sems (by decide) r.2⟩) (Cert.Reference3Ideal.Value.run m ρ)

/-- The call of the output projections computes the reference's mixer output at every token. -/
theorem mix_out : Cert.algebraic_Kernel5Ideal_Reference5Ideal := by
  pair_intro
  · run_from Cert.Kernel5Ideal.Gen.run_main m g
  · refine (θ_run Cert.Reference5Ideal.defs _ _).mono (fun r h c => ?_) (Cert.Reference5Ideal.Mix.run m' g')
    obtain ⟨hr, hargs⟩ := h c
    obtain ⟨h0, h1, h2, h3, h4, h5, h6, h7, h8, h9, h10, h11, h12⟩ := hagree c
    refine ⟨Eq.trans ?_ (Cert.Kernel5Ideal.Mix.final m c).symm, hargs⟩
    rw [h0, h1, h2, h3, h4, h5, h6, h7, h8, h9, h10, h11, h12] at hr
    funext i
    idx_vars i
    exact hr _ _ _

/-- The reference of the output projections leaves its arguments as they were. -/
theorem mix_out_reference : Cert.quiescent_Reference5Ideal := by
  intro m ρ _
  exact (θ_run Cert.Reference5Ideal.defs _ _).mono
    (fun r h => ⟨fun c => (h c).2, sem_eq_zero_of_no_sems (by decide) r.2⟩) (Cert.Reference5Ideal.Value.run m ρ)

/-- The call of the adaLN modulation computes the reference's nine modulation vectors of every sequence. -/
theorem modulation : Cert.algebraic_Kernel6Ideal_Reference6Ideal := by
  pair_intro
  · run_from Cert.Kernel6Ideal.Gen.run_main m g
    exact Cert.Kernel6Ideal.Gen.W_main_arg1 m _ c
  · run_from Cert.Reference6Ideal.Value.run m' g'
    exact (Cert.Reference6Ideal.AdaLn.result_eq _ _ _).trans (Cert.Kernel6Ideal.AdaLn.result_eq m c).symm

/-- The reference of the adaLN modulation leaves its arguments as they were. -/
theorem modulation_reference : Cert.quiescent_Reference6Ideal := by
  intro m ρ _
  exact (θ_run Cert.Reference6Ideal.defs _ _).mono
    (fun r h => ⟨fun c => (h c).2, sem_eq_zero_of_no_sems (by decide) r.2⟩) (Cert.Reference6Ideal.Value.run m ρ)

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts,
  fun m ρ _ => Cert.Kernel2.Gen.frame m ρ, fun m ρ _ => Cert.Kernel2Ideal.Gen.frame m ρ, ffn_first_reference,
  fun m ρ _ => Cert.Kernel3.Gen.frame m ρ, fun m ρ _ => Cert.Kernel3Ideal.Gen.frame m ρ, ffn_second_reference,
  fun m ρ _ => Cert.Kernel4.Gen.frame m ρ, fun m ρ _ => Cert.Kernel4Ideal.Gen.frame m ρ, mix_in_reference,
  fun m ρ _ => Cert.Kernel5.Gen.frame m ρ, fun m ρ _ => Cert.Kernel5Ideal.Gen.frame m ρ, mix_out_reference,
  fun m ρ _ => Cert.Kernel6.Gen.frame m ρ, fun m ρ _ => Cert.Kernel6Ideal.Gen.frame m ρ, modulation_reference,
  fun m ρ _ => Cert.Kernel7.Hgrn.frame m ρ, fun m ρ _ => Cert.Kernel7Ideal.Hgrn.frame m ρ,
  trivial, ffn_first, trivial, ffn_second, trivial, mix_in, trivial, mix_out, trivial, modulation, trivial⟩

end Cert.Proof

end
